-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_inputs [hPre_drawn_inputs : Cert.Pre_drawn_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_inputs [hPre_drawn_inputs : Cert.Pre_drawn_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_drawn_inputs [hKernelIdeal : Cert.KernelIdeal.Facts] [hPre_drawn_inputs : Cert.Pre_drawn_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn_inputs [hReferenceIdeal : Cert.ReferenceIdeal.Facts] [hPre_drawn_inputs : Cert.Pre_drawn_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale" .f32 0x3D5105EC#32 (((Real.sqrt 384)⁻¹ : ℝ) : EReal)

def algebraic_KernelIdeal_ReferenceIdeal_pre_drawn_inputs [hKernelIdeal : Cert.KernelIdeal.Facts] [hReferenceIdeal : Cert.ReferenceIdeal.Facts] [hPre_drawn_inputs : Cert.Pre_drawn_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_drawn_inputs : Cert.Pre_drawn_inputs.Facts),
    quiescent_Kernel (hKernel := hKernel)
    ∧ quiescent_KernelIdeal (hKernelIdeal := hKernelIdeal)
    ∧ quiescent_KernelIdeal_pre_drawn_inputs (hKernelIdeal := hKernelIdeal) (hPre_drawn_inputs := hPre_drawn_inputs)
    ∧ quiescent_ReferenceIdeal (hReferenceIdeal := hReferenceIdeal)
    ∧ quiescent_ReferenceIdeal_pre_drawn_inputs (hReferenceIdeal := hReferenceIdeal) (hPre_drawn_inputs := hPre_drawn_inputs)
    ∧ preserves_Kernel_KernelIdeal
    ∧ algebraic_KernelIdeal_ReferenceIdeal_pre_drawn_inputs (hKernelIdeal := hKernelIdeal) (hReferenceIdeal := hReferenceIdeal) (hPre_drawn_inputs := hPre_drawn_inputs)
-- ==== Pre_drawn_inputs.lean ====
abbrev S4x384x56x56 : Shape := ⟨4, ![4, 384, 56, 56]⟩
abbrev S1152x384x1x1 : Shape := ⟨4, ![1152, 384, 1, 1]⟩
abbrev S1152 : Shape := ⟨1, ![1152]⟩
abbrev S384x1x5x5 : Shape := ⟨4, ![384, 1, 5, 5]⟩
abbrev S384 : Shape := ⟨1, ![384]⟩
abbrev S384x384x1x1 : Shape := ⟨4, ![384, 384, 1, 1]⟩
abbrev S_ : Shape := ⟨0, ![]⟩

class Facts : Prop where
  bcast_S_S4x384x56x56 : S_.BroadcastsInDim S4x384x56x56 (![] : Fin 0 → Fin S4x384x56x56.rank)
  reducesTo_S4x384x56x56_S_d0_1_2_3 : S4x384x56x56.ReducesTo [0, 1, 2, 3] S_
  h_S_ : 0 < S_.numel
  bcast_S_S1152x384x1x1 : S_.BroadcastsInDim S1152x384x1x1 (![] : Fin 0 → Fin S1152x384x1x1.rank)
  reducesTo_S1152x384x1x1_S_d0_1_2_3 : S1152x384x1x1.ReducesTo [0, 1, 2, 3] S_
  bcast_S_S1152 : S_.BroadcastsInDim S1152 (![] : Fin 0 → Fin S1152.rank)
  reducesTo_S1152_S_d0 : S1152.ReducesTo [0] S_
  bcast_S_S384 : S_.BroadcastsInDim S384 (![] : Fin 0 → Fin S384.rank)
  reducesTo_S384_S_d0 : S384.ReducesTo [0] S_

variable [Facts]

def fn_part1 {F : FTy → Type} [FloatOps F] (main_v13 : IVec S_ 1) (main_v15 : IVec S384 1) (main_c_5 : IVec S_ 1) : IVec S_ 1 :=
  let main_v16 : IVec S_ 1 := (fun x v => Host.reduce IntOp.andi x v reducesTo_S384_S_d0 h_S_) main_v15 main_c_5
  let main_v17 : IVec S_ 1 := andi main_v13 main_v16
  main_v17

def fn {F : FTy → Type} [FloatOps F] (main_arg0 : FVec F S4x384x56x56 .f32) (main_arg1 : FVec F S1152x384x1x1 .f32) (main_arg2 : FVec F S1152 .f32) (main_arg3 : FVec F S384x1x5x5 .f32) (main_arg4 : FVec F S384 .f32) (main_arg5 : FVec F S384x384x1x1 .f32) (main_arg6 : FVec F S384 .f32) : IVec S_ 1 :=
  let main_v0 : FVec F S4x384x56x56 .f32 := Host.absf main_arg0
  let main_cst : FVec F S_ .f32 := constant S_ .f32 0x7F800000#32
  let main_v1 : FVec F S4x384x56x56 .f32 := broadcastInDim S4x384x56x56 ![] bcast_S_S4x384x56x56 main_cst
  let main_v2 : IVec S4x384x56x56 1 := cmpf .olt main_v0 main_v1
  let main_c : IVec S_ 1 := constantI S_ 1 1#1
  let main_v3 : IVec S_ 1 := (fun x v => Host.reduce IntOp.andi x v reducesTo_S4x384x56x56_S_d0_1_2_3 h_S_) main_v2 main_c
  let main_v4 : FVec F S1152x384x1x1 .f32 := Host.absf main_arg1
  let main_cst_0 : FVec F S_ .f32 := constant S_ .f32 0x7F800000#32
  let main_v5 : FVec F S1152x384x1x1 .f32 := broadcastInDim S1152x384x1x1 ![] bcast_S_S1152x384x1x1 main_cst_0
  let main_v6 : IVec S1152x384x1x1 1 := cmpf .olt main_v4 main_v5
  let main_c_1 : IVec S_ 1 := constantI S_ 1 1#1
  let main_v7 : IVec S_ 1 := (fun x v => Host.reduce IntOp.andi x v reducesTo_S1152x384x1x1_S_d0_1_2_3 h_S_) main_v6 main_c_1
  let main_v8 : IVec S_ 1 := andi main_v3 main_v7
  let main_v9 : FVec F S1152 .f32 := Host.absf main_arg2
  let main_cst_2 : FVec F S_ .f32 := constant S_ .f32 0x7F800000#32
  let main_v10 : FVec F S1152 .f32 := broadcastInDim S1152 ![] bcast_S_S1152 main_cst_2
  let main_v11 : IVec S1152 1 := cmpf .olt main_v9 main_v10
  let main_c_3 : IVec S_ 1 := constantI S_ 1 1#1
  let main_v12 : IVec S_ 1 := (fun x v => Host.reduce IntOp.andi x v reducesTo_S1152_S_d0 h_S_) main_v11 main_c_3
  let main_v13 : IVec S_ 1 := andi main_v8 main_v12
  let main_cst_4 : FVec F S_ .f32 := constant S_ .f32 0x00000000#32
  let main_v14 : FVec F S384 .f32 := broadcastInDim S384 ![] bcast_S_S384 main_cst_4
  let main_v15 : IVec S384 1 := cmpf .oeq main_arg4 main_v14
  let main_c_5 : IVec S_ 1 := constantI S_ 1 1#1
  fn_part1 (F := F) main_v13 main_v15 main_c_5
-- ==== Kernel.lean ====
abbrev S4x384x56x56 : Shape := ⟨4, ![4, 384, 56, 56]⟩
abbrev S1152x384x1x1 : Shape := ⟨4, ![1152, 384, 1, 1]⟩
abbrev S1152 : Shape := ⟨1, ![1152]⟩
abbrev S384x1x5x5 : Shape := ⟨4, ![384, 1, 5, 5]⟩
abbrev S384 : Shape := ⟨1, ![384]⟩
abbrev S384x384x1x1 : Shape := ⟨4, ![384, 384, 1, 1]⟩
abbrev S1152x384 : Shape := ⟨2, ![1152, 384]⟩
abbrev S384x1152 : Shape := ⟨2, ![384, 1152]⟩
abbrev S1x1152 : Shape := ⟨2, ![1, 1152]⟩
abbrev S4x56x56x384 : Shape := ⟨4, ![4, 56, 56, 384]⟩
abbrev S4x49x1152x64 : Shape := ⟨4, ![4, 49, 1152, 64]⟩
abbrev S4x7x7x384 : Shape := ⟨4, ![4, 7, 7, 384]⟩
abbrev S1x8x56x384 : Shape := ⟨4, ![1, 8, 56, 384]⟩
abbrev S1x7x1152x64 : Shape := ⟨4, ![1, 7, 1152, 64]⟩
abbrev S1x1x7x384 : Shape := ⟨4, ![1, 1, 7, 384]⟩
abbrev S8x56x384 : Shape := ⟨3, ![8, 56, 384]⟩
abbrev S448x384 : Shape := ⟨2, ![448, 384]⟩
abbrev S448x1152 : Shape := ⟨2, ![448, 1152]⟩
abbrev S8x7x8x1152 : Shape := ⟨4, ![8, 7, 8, 1152]⟩
abbrev S8x1x8x1152 : Shape := ⟨4, ![8, 1, 8, 1152]⟩
abbrev S8x8x1152 : Shape := ⟨3, ![8, 8, 1152]⟩
abbrev S64x1152 : Shape := ⟨2, ![64, 1152]⟩
abbrev S1152x64 : Shape := ⟨2, ![1152, 64]⟩
abbrev S1x1x1152x64 : Shape := ⟨4, ![1, 1, 1152, 64]⟩
abbrev S7x1152 : Shape := ⟨2, ![7, 1152]⟩
abbrev S7x384 : Shape := ⟨2, ![7, 384]⟩
abbrev S4x49x128 : Shape := ⟨3, ![4, 49, 128]⟩
abbrev S1x7x7x384 : Shape := ⟨4, ![1, 7, 7, 384]⟩
abbrev S1x49x128 : Shape := ⟨3, ![1, 49, 128]⟩
abbrev S7x7x384 : Shape := ⟨3, ![7, 7, 384]⟩
abbrev S49x384 : Shape := ⟨2, ![49, 384]⟩
abbrev S49x49 : Shape := ⟨2, ![49, 49]⟩
abbrev S49 : Shape := ⟨1, ![49]⟩
abbrev S49x1 : Shape := ⟨2, ![49, 1]⟩
abbrev S49x4 : Shape := ⟨2, ![49, 4]⟩
abbrev S49x124 : Shape := ⟨2, ![49, 124]⟩
abbrev S49x128 : Shape := ⟨2, ![49, 128]⟩
abbrev S_ : Shape := ⟨0, ![]⟩
abbrev S4x49x384x64 : Shape := ⟨4, ![4, 49, 384, 64]⟩
abbrev S1x1x384x64 : Shape := ⟨4, ![1, 1, 384, 64]⟩
abbrev S1x1x1 : Shape := ⟨3, ![1, 1, 1]⟩
abbrev S384x64 : Shape := ⟨2, ![384, 64]⟩
abbrev S384x256 : Shape := ⟨2, ![384, 256]⟩
abbrev S12x32x64 : Shape := ⟨3, ![12, 32, 64]⟩
abbrev S12x32x256 : Shape := ⟨3, ![12, 32, 256]⟩
abbrev S6x32x64 : Shape := ⟨3, ![6, 32, 64]⟩
abbrev S6x32x256 : Shape := ⟨3, ![6, 32, 256]⟩
abbrev S6x64x256 : Shape := ⟨3, ![6, 64, 256]⟩
abbrev S6x64 : Shape := ⟨2, ![6, 64]⟩
abbrev S6x64x1 : Shape := ⟨3, ![6, 64, 1]⟩
abbrev S6x1x64 : Shape := ⟨3, ![6, 1, 64]⟩
abbrev S4x60x60x384 : Shape := ⟨4, ![4, 60, 60, 384]⟩
abbrev S1x384x25 : Shape := ⟨3, ![1, 384, 25]⟩
abbrev S1x25x384 : Shape := ⟨3, ![1, 25, 384]⟩
abbrev S384x384 : Shape := ⟨2, ![384, 384]⟩
abbrev S1x384 : Shape := ⟨2, ![1, 384]⟩
abbrev S1x7x384x64 : Shape := ⟨4, ![1, 7, 384, 64]⟩
abbrev S1x60x60x384 : Shape := ⟨4, ![1, 60, 60, 384]⟩
abbrev S64x384 : Shape := ⟨2, ![64, 384]⟩
abbrev S8x8x384 : Shape := ⟨3, ![8, 8, 384]⟩
abbrev S1x8x8x384 : Shape := ⟨4, ![1, 8, 8, 384]⟩
abbrev S7x8x8x384 : Shape := ⟨4, ![7, 8, 8, 384]⟩
abbrev S8x7x8x384 : Shape := ⟨4, ![8, 7, 8, 384]⟩
abbrev S1x12x60x384 : Shape := ⟨4, ![1, 12, 60, 384]⟩
abbrev S12x60x384 : Shape := ⟨3, ![12, 60, 384]⟩
abbrev S1x1x384 : Shape := ⟨3, ![1, 1, 384]⟩

abbrev nBuf : Space → Nat
  | .hbm => 34
  | .vmem => 47
  | .smem => 1
  | _ => 0

abbrev bufTy : (tb : Table) → Fin (tcTables nBuf tb) → BufTy
  | .hbm, ⟨0, _⟩ => ⟨S4x384x56x56, .f32⟩
  | .hbm, ⟨1, _⟩ => ⟨S1152x384x1x1, .f32⟩
  | .hbm, ⟨2, _⟩ => ⟨S1152, .f32⟩
  | .hbm, ⟨3, _⟩ => ⟨S384x1x5x5, .f32⟩
  | .hbm, ⟨4, _⟩ => ⟨S384, .f32⟩
  | .hbm, ⟨5, _⟩ => ⟨S384x384x1x1, .f32⟩
  | .hbm, ⟨6, _⟩ => ⟨S384, .f32⟩
  | .hbm, ⟨7, _⟩ => ⟨S1152x384, .f32⟩
  | .hbm, ⟨8, _⟩ => ⟨S384x1152, .f32⟩
  | .hbm, ⟨9, _⟩ => ⟨S1x1152, .f32⟩
  | .hbm, ⟨10, _⟩ => ⟨S4x56x56x384, .f32⟩
  | .hbm, ⟨11, _⟩ => ⟨S4x49x1152x64, .bf16⟩
  | .hbm, ⟨12, _⟩ => ⟨S4x56x56x384, .bf16⟩
  | .hbm, ⟨13, _⟩ => ⟨S4x7x7x384, .f32⟩
  | .hbm, ⟨14, _⟩ => ⟨S4x7x7x384, .f32⟩
  | .hbm, ⟨15, _⟩ => ⟨S4x49x128, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S4x49x128, .i32⟩
  | .hbm, ⟨20, _⟩ => ⟨S4x49x128, .i32⟩
  | .hbm, ⟨21, _⟩ => ⟨S_, .i32⟩
  | .hbm, ⟨22, _⟩ => ⟨S4x49x128, .i32⟩
  | .hbm, ⟨23, _⟩ => ⟨S4x49x384x64, .bf16⟩
  | .hbm, ⟨24, _⟩ => ⟨S_, .i32⟩
  | .hbm, ⟨25, _⟩ => ⟨S_, .bf16⟩
  | .hbm, ⟨26, _⟩ => ⟨S4x60x60x384, .bf16⟩
  | .hbm, ⟨27, _⟩ => ⟨S1x384x25, .f32⟩
  | .hbm, ⟨28, _⟩ => ⟨S1x25x384, .f32⟩
  | .hbm, ⟨29, _⟩ => ⟨S384x384, .f32⟩
  | .hbm, ⟨30, _⟩ => ⟨S384x384, .f32⟩
  | .hbm, ⟨31, _⟩ => ⟨S1x384, .f32⟩
  | .hbm, ⟨32, _⟩ => ⟨S4x56x56x384, .f32⟩
  | .hbm, ⟨33, _⟩ => ⟨S4x384x56x56, .f32⟩
  | .local _ .vmem, ⟨0, _⟩ => ⟨S1x8x56x384, .f32⟩
  | .local _ .vmem, ⟨1, _⟩ => ⟨S1x8x56x384, .f32⟩
  | .local _ .vmem, ⟨2, _⟩ => ⟨S384x1152, .f32⟩
  | .local _ .vmem, ⟨3, _⟩ => ⟨S1x1152, .f32⟩
  | .local _ .vmem, ⟨4, _⟩ => ⟨S1x7x1152x64, .bf16⟩
  | .local _ .vmem, ⟨5, _⟩ => ⟨S1x7x1152x64, .bf16⟩
  | .local _ .vmem, ⟨6, _⟩ => ⟨S1x8x56x384, .bf16⟩
  | .local _ .vmem, ⟨7, _⟩ => ⟨S1x8x56x384, .bf16⟩
  | .local _ .vmem, ⟨8, _⟩ => ⟨S1x1x7x384, .f32⟩
  | .local _ .vmem, ⟨9, _⟩ => ⟨S1x1x7x384, .f32⟩
  | .local _ .vmem, ⟨10, _⟩ => ⟨S1x1x7x384, .f32⟩
  | .local _ .vmem, ⟨11, _⟩ => ⟨S1x1x7x384, .f32⟩
  | .local _ .vmem, ⟨12, _⟩ => ⟨S1x7x7x384, .f32⟩
  | .local _ .vmem, ⟨13, _⟩ => ⟨S1x7x7x384, .f32⟩
  | .local _ .vmem, ⟨14, _⟩ => ⟨S1x7x7x384, .f32⟩
  | .local _ .vmem, ⟨15, _⟩ => ⟨S1x7x7x384, .f32⟩
  | .local _ .vmem, ⟨16, _⟩ => ⟨S1x49x128, .i32⟩
  | .local _ .vmem, ⟨17, _⟩ => ⟨S1x49x128, .i32⟩
  | .local _ .vmem, ⟨18, _⟩ => ⟨S1x1x384x64, .bf16⟩
  | .local _ .vmem, ⟨19, _⟩ => ⟨S1x1x384x64, .bf16⟩
  | .local _ .vmem, ⟨20, _⟩ => ⟨S1x1x384x64, .bf16⟩
  | .local _ .vmem, ⟨21, _⟩ => ⟨S1x1x384x64, .bf16⟩
  | .local _ .vmem, ⟨22, _⟩ => ⟨S1x1x384x64, .bf16⟩
  | .local _ .vmem, ⟨23, _⟩ => ⟨S1x1x384x64, .bf16⟩
  | .local _ .vmem, ⟨24, _⟩ => ⟨S1x1x384x64, .bf16⟩
  | .local _ .vmem, ⟨25, _⟩ => ⟨S1x1x384x64, .bf16⟩
  | .local _ .vmem, ⟨26, _⟩ => ⟨S1x1x384x64, .bf16⟩
  | .local _ .vmem, ⟨27, _⟩ => ⟨S1x1x384x64, .bf16⟩
  | .local _ .vmem, ⟨28, _⟩ => ⟨S1x1x384x64, .bf16⟩
  | .local _ .vmem, ⟨29, _⟩ => ⟨S1x1x384x64, .bf16⟩
  | .local _ .vmem, ⟨30, _⟩ => ⟨S1x1x384x64, .bf16⟩
  | .local _ .vmem, ⟨31, _⟩ => ⟨S1x1x384x64, .bf16⟩
  | .local _ .vmem, ⟨32, _⟩ => ⟨S1x1x384x64, .bf16⟩
  | .local _ .vmem, ⟨33, _⟩ => ⟨S1x1x384x64, .bf16⟩
  | .local _ .vmem, ⟨34, _⟩ => ⟨S1x1x384x64, .bf16⟩
  | .local _ .vmem, ⟨35, _⟩ => ⟨S1x1x384x64, .bf16⟩
  | .local _ .vmem, ⟨36, _⟩ => ⟨S1x1x384x64, .bf16⟩
  | .local _ .vmem, ⟨37, _⟩ => ⟨S1x1x384x64, .bf16⟩
  | .local _ .vmem, ⟨38, _⟩ => ⟨S1x7x384x64, .bf16⟩
  | .local _ .vmem, ⟨39, _⟩ => ⟨S1x7x384x64, .bf16⟩
  | .local _ .vmem, ⟨40, _⟩ => ⟨S1x60x60x384, .bf16⟩
  | .local _ .vmem, ⟨41, _⟩ => ⟨S1x60x60x384, .bf16⟩
  | .local _ .vmem, ⟨42, _⟩ => ⟨S1x25x384, .f32⟩
  | .local _ .vmem, ⟨43, _⟩ => ⟨S384x384, .f32⟩
  | .local _ .vmem, ⟨44, _⟩ => ⟨S1x384, .f32⟩
  | .local _ .vmem, ⟨45, _⟩ => ⟨S1x8x56x384, .f32⟩
  | .local _ .vmem, ⟨46, _⟩ => ⟨S1x8x56x384, .f32⟩
  | .local _ .smem, ⟨0, _⟩ => ⟨S4x49x128, .i32⟩
  | _, _ => ⟨S4x384x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v5 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_c_1 : Ref sig .tc := ⟨.hbm, 24, rfl⟩
abbrev main_call1_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc2_stg9_0 : Ref sig .tc := ⟨.vmem, 36, rfl⟩
abbrev cc2_stg9_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg5_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35
abbrev cc2_sem9_0 : DmaSem sig := 36
abbrev cc2_sem9_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem5_1 : DmaSem sig := 46

abbrev nD : Nat := 1
abbrev τ : Topo := Topo.v7x

variable {F : FTy → Type} [FloatOps F]

abbrev grid0 : Pipeline.Grid := ⟨2, ![4, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x56x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S384x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x7x1152x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x56x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x7x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x7x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![4], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x7x7x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x7x7x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x49x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 49], ![false, false]⟩

abbrev pre2 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 3 → Nat :=
  let arg0 : BitVec 32 := BitVec.ofNat 32 (i 0).val
  let v0 : Index := Scalar.indexCast arg0
  let arg1 : BitVec 32 := BitVec.ofNat 32 (i 1).val
  let v1 : Index := Scalar.indexCast arg1
  let c0 : Index := 0#32
  ![v0.toNat, v1.toNat, 0]
def k2_off2 (i : grid2.Coords) : Fin 3 → Nat :=
  let arg0 : BitVec 32 := BitVec.ofNat 32 (i 0).val
  let v0 : Index := Scalar.indexCast arg0
  let arg1 : BitVec 32 := BitVec.ofNat 32 (i 1).val
  let v1 : Index := Scalar.indexCast arg1
  let c1 : Index := 1#32
  ![v0.toNat, v1.toNat, 1]
def k2_off3 (i : grid2.Coords) : Fin 3 → Nat :=
  let arg0 : BitVec 32 := BitVec.ofNat 32 (i 0).val
  let v0 : Index := Scalar.indexCast arg0
  let arg1 : BitVec 32 := BitVec.ofNat 32 (i 1).val
  let v1 : Index := Scalar.indexCast arg1
  let c2 : Index := 2#32
  ![v0.toNat, v1.toNat, 2]
def k2_off4 (i : grid2.Coords) : Fin 3 → Nat :=
  let arg0 : BitVec 32 := BitVec.ofNat 32 (i 0).val
  let v0 : Index := Scalar.indexCast arg0
  let arg1 : BitVec 32 := BitVec.ofNat 32 (i 1).val
  let v1 : Index := Scalar.indexCast arg1
  let c3 : Index := 3#32
  ![v0.toNat, v1.toNat, 3]
def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (k2_off1_inb : ∀ i : grid2.Coords, ∀ a, (k2_off1 i) a + S1x1x1.size a ≤ S4x49x128.size a) (numel1_S1x1x1 : S1x1x1.numel = 1) (pf : pre2.Contents (Elt F)) (i : grid2.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let c0 : Index := 0#32
  let v2 : BitVec 32 := pf.at 0 (Rect.unit (s := S4x49x128) ![v0.toNat, v1.toNat, 0] S1x1x1.size (k2_off1_inb i)) numel1_S1x1x1
  let c1_i32 : BitVec 32 := 1#32
  let c0_i32 : BitVec 32 := 0#32
  let c0_i32_0 : BitVec 32 := 0#32
  ![arg0.toNat, v2.toNat, c1_i32.toNat, c0_i32.toNat]

def cc2_transform_2 (k2_off2_inb : ∀ i : grid2.Coords, ∀ a, (k2_off2 i) a + S1x1x1.size a ≤ S4x49x128.size a) (numel1_S1x1x1 : S1x1x1.numel = 1) (pf : pre2.Contents (Elt F)) (i : grid2.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let c1 : Index := 1#32
  let v2 : BitVec 32 := pf.at 0 (Rect.unit (s := S4x49x128) ![v0.toNat, v1.toNat, 1] S1x1x1.size (k2_off2_inb i)) numel1_S1x1x1
  let c1_i32 : BitVec 32 := 1#32
  let c0_i32 : BitVec 32 := 0#32
  let c0_i32_0 : BitVec 32 := 0#32
  ![arg0.toNat, v2.toNat, c1_i32.toNat, c0_i32.toNat]

def cc2_transform_3 (k2_off3_inb : ∀ i : grid2.Coords, ∀ a, (k2_off3 i) a + S1x1x1.size a ≤ S4x49x128.size a) (numel1_S1x1x1 : S1x1x1.numel = 1) (pf : pre2.Contents (Elt F)) (i : grid2.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let c2 : Index := 2#32
  let v2 : BitVec 32 := pf.at 0 (Rect.unit (s := S4x49x128) ![v0.toNat, v1.toNat, 2] S1x1x1.size (k2_off3_inb i)) numel1_S1x1x1
  let c1_i32 : BitVec 32 := 1#32
  let c0_i32 : BitVec 32 := 0#32
  let c0_i32_0 : BitVec 32 := 0#32
  ![arg0.toNat, v2.toNat, c1_i32.toNat, c0_i32.toNat]

def cc2_transform_4 (k2_off4_inb : ∀ i : grid2.Coords, ∀ a, (k2_off4 i) a + S1x1x1.size a ≤ S4x49x128.size a) (numel1_S1x1x1 : S1x1x1.numel = 1) (pf : pre2.Contents (Elt F)) (i : grid2.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let c3 : Index := 3#32
  let v2 : BitVec 32 := pf.at 0 (Rect.unit (s := S4x49x128) ![v0.toNat, v1.toNat, 3] S1x1x1.size (k2_off4_inb i)) numel1_S1x1x1
  let c1_i32 : BitVec 32 := 1#32
  let c0_i32 : BitVec 32 := 0#32
  let c0_i32_0 : BitVec 32 := 0#32
  ![arg0.toNat, v2.toNat, c1_i32.toNat, c0_i32.toNat]

def cc2_transform_5 (k2_off1_inb : ∀ i : grid2.Coords, ∀ a, (k2_off1 i) a + S1x1x1.size a ≤ S4x49x128.size a) (numel1_S1x1x1 : S1x1x1.numel = 1) (pf : pre2.Contents (Elt F)) (i : grid2.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let c0 : Index := 0#32
  let v2 : BitVec 32 := pf.at 0 (Rect.unit (s := S4x49x128) ![v0.toNat, v1.toNat, 0] S1x1x1.size (k2_off1_inb i)) numel1_S1x1x1
  let c2_i32 : BitVec 32 := 2#32
  let c0_i32 : BitVec 32 := 0#32
  let c0_i32_0 : BitVec 32 := 0#32
  ![arg0.toNat, v2.toNat, c2_i32.toNat, c0_i32.toNat]

def cc2_transform_6 (k2_off2_inb : ∀ i : grid2.Coords, ∀ a, (k2_off2 i) a + S1x1x1.size a ≤ S4x49x128.size a) (numel1_S1x1x1 : S1x1x1.numel = 1) (pf : pre2.Contents (Elt F)) (i : grid2.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let c1 : Index := 1#32
  let v2 : BitVec 32 := pf.at 0 (Rect.unit (s := S4x49x128) ![v0.toNat, v1.toNat, 1] S1x1x1.size (k2_off2_inb i)) numel1_S1x1x1
  let c2_i32 : BitVec 32 := 2#32
  let c0_i32 : BitVec 32 := 0#32
  let c0_i32_0 : BitVec 32 := 0#32
  ![arg0.toNat, v2.toNat, c2_i32.toNat, c0_i32.toNat]

def cc2_transform_7 (k2_off3_inb : ∀ i : grid2.Coords, ∀ a, (k2_off3 i) a + S1x1x1.size a ≤ S4x49x128.size a) (numel1_S1x1x1 : S1x1x1.numel = 1) (pf : pre2.Contents (Elt F)) (i : grid2.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let c2 : Index := 2#32
  let v2 : BitVec 32 := pf.at 0 (Rect.unit (s := S4x49x128) ![v0.toNat, v1.toNat, 2] S1x1x1.size (k2_off3_inb i)) numel1_S1x1x1
  let c2_i32 : BitVec 32 := 2#32
  let c0_i32 : BitVec 32 := 0#32
  let c0_i32_0 : BitVec 32 := 0#32
  ![arg0.toNat, v2.toNat, c2_i32.toNat, c0_i32.toNat]

def cc2_transform_8 (k2_off4_inb : ∀ i : grid2.Coords, ∀ a, (k2_off4 i) a + S1x1x1.size a ≤ S4x49x128.size a) (numel1_S1x1x1 : S1x1x1.numel = 1) (pf : pre2.Contents (Elt F)) (i : grid2.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let c3 : Index := 3#32
  let v2 : BitVec 32 := pf.at 0 (Rect.unit (s := S4x49x128) ![v0.toNat, v1.toNat, 3] S1x1x1.size (k2_off4_inb i)) numel1_S1x1x1
  let c2_i32 : BitVec 32 := 2#32
  let c0_i32 : BitVec 32 := 0#32
  let c0_i32_0 : BitVec 32 := 0#32
  ![arg0.toNat, v2.toNat, c2_i32.toNat, c0_i32.toNat]

def cc2_transform_9 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x1x384x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x384x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x384x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x384x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x384x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x384x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x1x384x64 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x1x384x64 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x1x384x64 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x1x384x64 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨2, ![4, 7], ![false, false]⟩

def k3_off1 (i : grid3.Coords) : Fin 4 → Nat :=
  let c0_21 : Index := 0#32
  let arg1 : BitVec 32 := BitVec.ofNat 32 (i 1).val
  let c8_i32 : BitVec 32 := 8#32
  let v39 : BitVec 32 := Scalar.muli arg1 c8_i32
  let v40 : Index := Scalar.indexCast v39
  let c0_22 : Index := 0#32
  let c0_23 : Index := 0#32
  ![0, v40.toNat, 0, 0]
def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x7x384x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x60x60x384 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S1x25x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S384x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x8x56x384 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== KernelIdeal.lean ====
variable {F : FTy → Type} [FloatOps F] [Named F]
def κ : String → Option EReal := fun
  | "scale" => some (((Real.sqrt 384)⁻¹ : ℝ) : EReal)
  | _ => none
-- ==== ReferenceIdeal.lean ====
abbrev S4x384x56x56 : Shape := ⟨4, ![4, 384, 56, 56]⟩
abbrev S1152x384x1x1 : Shape := ⟨4, ![1152, 384, 1, 1]⟩
abbrev S1152 : Shape := ⟨1, ![1152]⟩
abbrev S384x1x5x5 : Shape := ⟨4, ![384, 1, 5, 5]⟩
abbrev S384 : Shape := ⟨1, ![384]⟩
abbrev S384x384x1x1 : Shape := ⟨4, ![384, 384, 1, 1]⟩
abbrev S1152x384 : Shape := ⟨2, ![1152, 384]⟩
abbrev S1152x4x56x56 : Shape := ⟨4, ![1152, 4, 56, 56]⟩
abbrev S4x1152x56x56 : Shape := ⟨4, ![4, 1152, 56, 56]⟩
abbrev S1x1152x1x1 : Shape := ⟨4, ![1, 1152, 1, 1]⟩
abbrev S_ : Shape := ⟨0, ![]⟩
abbrev S4x384x7x8x7x8 : Shape := ⟨6, ![4, 384, 7, 8, 7, 8]⟩
abbrev S4x384x7x7 : Shape := ⟨4, ![4, 384, 7, 7]⟩
abbrev S4x7x7x384 : Shape := ⟨4, ![4, 7, 7, 384]⟩
abbrev S4x49x384 : Shape := ⟨3, ![4, 49, 384]⟩
abbrev S4x384x49 : Shape := ⟨3, ![4, 384, 49]⟩
abbrev S4x49x49 : Shape := ⟨3, ![4, 49, 49]⟩
abbrev S4x49x4 : Shape := ⟨3, ![4, 49, 4]⟩
abbrev S4x12x32x7x8x7x8 : Shape := ⟨7, ![4, 12, 32, 7, 8, 7, 8]⟩
abbrev S4x12x7x7x8x8x32 : Shape := ⟨7, ![4, 12, 7, 7, 8, 8, 32]⟩
abbrev S4x12x49x64x32 : Shape := ⟨5, ![4, 12, 49, 64, 32]⟩
abbrev S4x49x4x1 : Shape := ⟨4, ![4, 49, 4, 1]⟩
abbrev S4x12x49x4x64x32 : Shape := ⟨6, ![4, 12, 49, 4, 64, 32]⟩
abbrev S4x12x49x256x32 : Shape := ⟨5, ![4, 12, 49, 256, 32]⟩
abbrev S4x12x49x32x256 : Shape := ⟨5, ![4, 12, 49, 32, 256]⟩
abbrev S4x12x49x64x256 : Shape := ⟨5, ![4, 12, 49, 64, 256]⟩
abbrev S4x12x49x64 : Shape := ⟨4, ![4, 12, 49, 64]⟩
abbrev S4x12x49x64x1 : Shape := ⟨5, ![4, 12, 49, 64, 1]⟩
abbrev S4x384x60x60 : Shape := ⟨4, ![4, 384, 60, 60]⟩
abbrev S1x384x5x5 : Shape := ⟨4, ![1, 384, 5, 5]⟩
abbrev S1x384x1x1 : Shape := ⟨4, ![1, 384, 1, 1]⟩
abbrev S384x384 : Shape := ⟨2, ![384, 384]⟩
abbrev S384x4x56x56 : Shape := ⟨4, ![384, 4, 56, 56]⟩

abbrev nBuf : Space → Nat
  | .hbm => 214
  | .vmem => 0
  | .smem => 0
  | _ => 0

abbrev hbmTy0_0 (i : Nat) : BufTy := match i % 128 with
  | 0 => ⟨S4x384x56x56, .f32⟩
  | 1 => ⟨S1152x384x1x1, .f32⟩
  | 2 => ⟨S1152, .f32⟩
  | 3 => ⟨S384x1x5x5, .f32⟩
  | 4 => ⟨S384, .f32⟩
  | 5 => ⟨S384x384x1x1, .f32⟩
  | 6 => ⟨S384, .f32⟩
  | 7 => ⟨S1152x384, .f32⟩
  | 8 => ⟨S1152x4x56x56, .f32⟩
  | 9 => ⟨S4x1152x56x56, .f32⟩
  | 10 => ⟨S1x1152x1x1, .f32⟩
  | 11 => ⟨S4x1152x56x56, .f32⟩
  | 12 => ⟨S4x1152x56x56, .f32⟩
  | 13 => ⟨S4x384x56x56, .f32⟩
  | 14 => ⟨S4x384x56x56, .f32⟩
  | 15 => ⟨S4x384x56x56, .f32⟩
  | 16 => ⟨S_, .f32⟩
  | 17 => ⟨S_, .f32⟩
  | 18 => ⟨S4x384x7x8x7x8, .f32⟩
  | 19 => ⟨S_, .f32⟩
  | 20 => ⟨S4x384x7x7, .f32⟩
  | 21 => ⟨S_, .f32⟩
  | 22 => ⟨S4x384x7x7, .f32⟩
  | 23 => ⟨S4x384x7x7, .f32⟩
  | 24 => ⟨S4x7x7x384, .f32⟩
  | 25 => ⟨S4x49x384, .f32⟩
  | 26 => ⟨S4x384x7x8x7x8, .f32⟩
  | 27 => ⟨S_, .f32⟩
  | 28 => ⟨S4x384x7x7, .f32⟩
  | 29 => ⟨S_, .f32⟩
  | 30 => ⟨S4x384x7x7, .f32⟩
  | 31 => ⟨S4x384x7x7, .f32⟩
  | 32 => ⟨S4x384x49, .f32⟩
  | 33 => ⟨S4x49x49, .f32⟩
  | 34 => ⟨S4x49x4, .f32⟩
  | 35 => ⟨S4x49x4, .i32⟩
  | 36 => ⟨S4x12x32x7x8x7x8, .f32⟩
  | 37 => ⟨S4x12x7x7x8x8x32, .f32⟩
  | 38 => ⟨S4x12x49x64x32, .f32⟩
  | 39 => ⟨S4x12x32x7x8x7x8, .f32⟩
  | 40 => ⟨S4x12x7x7x8x8x32, .f32⟩
  | 41 => ⟨S4x12x49x64x32, .f32⟩
  | 42 => ⟨S4x12x32x7x8x7x8, .f32⟩
  | 43 => ⟨S4x12x7x7x8x8x32, .f32⟩
  | 44 => ⟨S4x12x49x64x32, .f32⟩
  | 45 => ⟨S4x49x4x1, .i32⟩
  | 46 => ⟨S4x12x49x4x64x32, .f32⟩
  | 47 => ⟨S4x12x49x256x32, .f32⟩
  | 48 => ⟨S4x49x4x1, .i32⟩
  | 49 => ⟨S4x12x49x4x64x32, .f32⟩
  | 50 => ⟨S4x12x49x256x32, .f32⟩
  | 51 => ⟨S4x12x49x64x32, .f32⟩
  | 52 => ⟨S4x12x49x64x32, .f32⟩
  | 53 => ⟨S4x12x49x32x256, .f32⟩
  | 54 => ⟨S4x12x49x64x256, .f32⟩
  | 55 => ⟨S_, .f32⟩
  | 56 => ⟨S4x12x49x64, .f32⟩
  | 57 => ⟨S_, .f32⟩
  | 58 => ⟨S4x12x49x64, .f32⟩
  | 59 => ⟨S4x12x49x64, .f32⟩
  | 60 => ⟨S4x12x49x64x1, .f32⟩
  | 61 => ⟨S4x12x49x64x256, .f32⟩
  | 62 => ⟨S4x12x49x64x256, .f32⟩
  | 63 => ⟨S4x12x49x64x256, .f32⟩
  | 64 => ⟨S_, .f32⟩
  | 65 => ⟨S4x12x49x64, .f32⟩
  | 66 => ⟨S4x12x49x64x1, .f32⟩
  | 67 => ⟨S4x12x49x64x256, .f32⟩
  | 68 => ⟨S4x12x49x64x256, .f32⟩
  | 69 => ⟨S4x12x49x64x32, .f32⟩
  | 70 => ⟨S4x12x7x7x8x8x32, .f32⟩
  | 71 => ⟨S4x12x32x7x8x7x8, .f32⟩
  | 72 => ⟨S4x384x56x56, .f32⟩
  | 73 => ⟨S_, .i32⟩
  | 74 => ⟨S_, .f32⟩
  | 75 => ⟨S4x384x60x60, .f32⟩
  | 76 => ⟨S1x384x5x5, .f32⟩
  | 77 => ⟨S_, .f32⟩
  | 78 => ⟨S4x384x56x56, .f32⟩
  | 79 => ⟨S4x384x56x56, .f32⟩
  | 80 => ⟨S1x384x1x1, .f32⟩
  | 81 => ⟨S4x384x56x56, .f32⟩
  | 82 => ⟨S4x384x56x56, .f32⟩
  | 83 => ⟨S4x384x56x56, .f32⟩
  | 84 => ⟨S4x384x56x56, .f32⟩
  | 85 => ⟨S1x384x1x1, .f32⟩
  | 86 => ⟨S4x384x56x56, .f32⟩
  | 87 => ⟨S4x384x56x56, .f32⟩
  | 88 => ⟨S4x384x56x56, .f32⟩
  | 89 => ⟨S4x384x56x56, .f32⟩
  | 90 => ⟨S1x384x1x1, .f32⟩
  | 91 => ⟨S4x384x56x56, .f32⟩
  | 92 => ⟨S4x384x56x56, .f32⟩
  | 93 => ⟨S4x384x56x56, .f32⟩
  | 94 => ⟨S4x384x56x56, .f32⟩
  | 95 => ⟨S1x384x1x1, .f32⟩
  | 96 => ⟨S4x384x56x56, .f32⟩
  | 97 => ⟨S4x384x56x56, .f32⟩
  | 98 => ⟨S4x384x56x56, .f32⟩
  | 99 => ⟨S4x384x56x56, .f32⟩
  | 100 => ⟨S1x384x1x1, .f32⟩
  | 101 => ⟨S4x384x56x56, .f32⟩
  | 102 => ⟨S4x384x56x56, .f32⟩
  | 103 => ⟨S4x384x56x56, .f32⟩
  | 104 => ⟨S4x384x56x56, .f32⟩
  | 105 => ⟨S1x384x1x1, .f32⟩
  | 106 => ⟨S4x384x56x56, .f32⟩
  | 107 => ⟨S4x384x56x56, .f32⟩
  | 108 => ⟨S4x384x56x56, .f32⟩
  | 109 => ⟨S4x384x56x56, .f32⟩
  | 110 => ⟨S1x384x1x1, .f32⟩
  | 111 => ⟨S4x384x56x56, .f32⟩
  | 112 => ⟨S4x384x56x56, .f32⟩
  | 113 => ⟨S4x384x56x56, .f32⟩
  | 114 => ⟨S4x384x56x56, .f32⟩
  | 115 => ⟨S1x384x1x1, .f32⟩
  | 116 => ⟨S4x384x56x56, .f32⟩
  | 117 => ⟨S4x384x56x56, .f32⟩
  | 118 => ⟨S4x384x56x56, .f32⟩
  | 119 => ⟨S4x384x56x56, .f32⟩
  | 120 => ⟨S1x384x1x1, .f32⟩
  | 121 => ⟨S4x384x56x56, .f32⟩
  | 122 => ⟨S4x384x56x56, .f32⟩
  | 123 => ⟨S4x384x56x56, .f32⟩
  | 124 => ⟨S4x384x56x56, .f32⟩
  | 125 => ⟨S1x384x1x1, .f32⟩
  | 126 => ⟨S4x384x56x56, .f32⟩
  | 127 => ⟨S4x384x56x56, .f32⟩
  | _ => ⟨S4x384x56x56, .f32⟩

abbrev hbmTy0_1 (i : Nat) : BufTy := match i % 128 with
  | 0 => ⟨S4x384x56x56, .f32⟩
  | 1 => ⟨S4x384x56x56, .f32⟩
  | 2 => ⟨S1x384x1x1, .f32⟩
  | 3 => ⟨S4x384x56x56, .f32⟩
  | 4 => ⟨S4x384x56x56, .f32⟩
  | 5 => ⟨S4x384x56x56, .f32⟩
  | 6 => ⟨S4x384x56x56, .f32⟩
  | 7 => ⟨S1x384x1x1, .f32⟩
  | 8 => ⟨S4x384x56x56, .f32⟩
  | 9 => ⟨S4x384x56x56, .f32⟩
  | 10 => ⟨S4x384x56x56, .f32⟩
  | 11 => ⟨S4x384x56x56, .f32⟩
  | 12 => ⟨S1x384x1x1, .f32⟩
  | 13 => ⟨S4x384x56x56, .f32⟩
  | 14 => ⟨S4x384x56x56, .f32⟩
  | 15 => ⟨S4x384x56x56, .f32⟩
  | 16 => ⟨S4x384x56x56, .f32⟩
  | 17 => ⟨S1x384x1x1, .f32⟩
  | 18 => ⟨S4x384x56x56, .f32⟩
  | 19 => ⟨S4x384x56x56, .f32⟩
  | 20 => ⟨S4x384x56x56, .f32⟩
  | 21 => ⟨S4x384x56x56, .f32⟩
  | 22 => ⟨S1x384x1x1, .f32⟩
  | 23 => ⟨S4x384x56x56, .f32⟩
  | 24 => ⟨S4x384x56x56, .f32⟩
  | 25 => ⟨S4x384x56x56, .f32⟩
  | 26 => ⟨S4x384x56x56, .f32⟩
  | 27 => ⟨S1x384x1x1, .f32⟩
  | 28 => ⟨S4x384x56x56, .f32⟩
  | 29 => ⟨S4x384x56x56, .f32⟩
  | 30 => ⟨S4x384x56x56, .f32⟩
  | 31 => ⟨S4x384x56x56, .f32⟩
  | 32 => ⟨S1x384x1x1, .f32⟩
  | 33 => ⟨S4x384x56x56, .f32⟩
  | 34 => ⟨S4x384x56x56, .f32⟩
  | 35 => ⟨S4x384x56x56, .f32⟩
  | 36 => ⟨S4x384x56x56, .f32⟩
  | 37 => ⟨S1x384x1x1, .f32⟩
  | 38 => ⟨S4x384x56x56, .f32⟩
  | 39 => ⟨S4x384x56x56, .f32⟩
  | 40 => ⟨S4x384x56x56, .f32⟩
  | 41 => ⟨S4x384x56x56, .f32⟩
  | 42 => ⟨S1x384x1x1, .f32⟩
  | 43 => ⟨S4x384x56x56, .f32⟩
  | 44 => ⟨S4x384x56x56, .f32⟩
  | 45 => ⟨S4x384x56x56, .f32⟩
  | 46 => ⟨S4x384x56x56, .f32⟩
  | 47 => ⟨S1x384x1x1, .f32⟩
  | 48 => ⟨S4x384x56x56, .f32⟩
  | 49 => ⟨S4x384x56x56, .f32⟩
  | 50 => ⟨S4x384x56x56, .f32⟩
  | 51 => ⟨S4x384x56x56, .f32⟩
  | 52 => ⟨S1x384x1x1, .f32⟩
  | 53 => ⟨S4x384x56x56, .f32⟩
  | 54 => ⟨S4x384x56x56, .f32⟩
  | 55 => ⟨S4x384x56x56, .f32⟩
  | 56 => ⟨S4x384x56x56, .f32⟩
  | 57 => ⟨S1x384x1x1, .f32⟩
  | 58 => ⟨S4x384x56x56, .f32⟩
  | 59 => ⟨S4x384x56x56, .f32⟩
  | 60 => ⟨S4x384x56x56, .f32⟩
  | 61 => ⟨S4x384x56x56, .f32⟩
  | 62 => ⟨S1x384x1x1, .f32⟩
  | 63 => ⟨S4x384x56x56, .f32⟩
  | 64 => ⟨S4x384x56x56, .f32⟩
  | 65 => ⟨S4x384x56x56, .f32⟩
  | 66 => ⟨S4x384x56x56, .f32⟩
  | 67 => ⟨S1x384x1x1, .f32⟩
  | 68 => ⟨S4x384x56x56, .f32⟩
  | 69 => ⟨S4x384x56x56, .f32⟩
  | 70 => ⟨S4x384x56x56, .f32⟩
  | 71 => ⟨S4x384x56x56, .f32⟩
  | 72 => ⟨S1x384x1x1, .f32⟩
  | 73 => ⟨S4x384x56x56, .f32⟩
  | 74 => ⟨S4x384x56x56, .f32⟩
  | 75 => ⟨S4x384x56x56, .f32⟩
  | 76 => ⟨S1x384x1x1, .f32⟩
  | 77 => ⟨S4x384x56x56, .f32⟩
  | 78 => ⟨S4x384x56x56, .f32⟩
  | 79 => ⟨S4x384x56x56, .f32⟩
  | 80 => ⟨S384x384, .f32⟩
  | 81 => ⟨S384x4x56x56, .f32⟩
  | 82 => ⟨S4x384x56x56, .f32⟩
  | 83 => ⟨S1x384x1x1, .f32⟩
  | 84 => ⟨S4x384x56x56, .f32⟩
  | 85 => ⟨S4x384x56x56, .f32⟩
  | _ => ⟨S4x384x56x56, .f32⟩

abbrev hbmTy (i : Nat) : BufTy := match i / 128 with
  | 0 => hbmTy0_0 i
  | 1 => hbmTy0_1 i
  | _ => ⟨S4x384x56x56, .f32⟩

abbrev bufTy : (tb : Table) → Fin (tcTables nBuf tb) → BufTy
  | .hbm, ⟨i, _⟩ => hbmTy i
  | _, _ => ⟨S4x384x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_values : Ref sig .tc := ⟨.hbm, 34, rfl⟩
abbrev main_indices : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_call1_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c : Ref sig .tc := ⟨.hbm, 73, rfl⟩
abbrev main_call2_v0 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩

abbrev nD : Nat := 1
abbrev τ : Topo := Topo.v7x

variable {F : FTy → Type} [FloatOps F]
-- ==== Proof.Ideal.Stage1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Claim
public import Idealize.ShloMosaic.Lib.Ring
public import Idealize.ShloMosaic.Lib.Tactic
public import Idealize.ShloMosaic.Lib.WordCmp

/-! The first call: the qkv projection of a strip, regrouped by window, and the window means. What its body leaves in each staging buffer, and the call's proof data over any contents at its entry. -/

@[expose] public section

set_option maxRecDepth 16384

noncomputable section

namespace Cert.KernelIdeal.Stage1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- The contents of every buffer when the call is entered, per core.
variable (V : Dev nD → Valuation τ sig (Elt F))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Proc.devRef .tc (Pipeline.arrRef spec0 0)))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Proc.devRef .tc (Pipeline.arrRef spec0 1)))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Proc.devRef .tc (Pipeline.arrRef spec0 2)))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1x8x56x384 := Rect.unit (s := S1x8x56x384) ![0, 0, 0, 0] S1x8x56x384.size inb_S1x8x56x384_S1x8x56x384_0_0_0_0
abbrev r0_1 : Rect S384x1152 := Rect.unit (s := S384x1152) ![0, 0] S384x1152.size inb_S384x1152_S384x1152_0_0
abbrev r0_2 : Rect S1x1152 := Rect.unit (s := S1x1152) ![0, 0] S1x1152.size inb_S1x1152_S1x1152_0_0
abbrev r0_3 : Rect S1x7x1152x64 := Rect.unit (s := S1x7x1152x64) ![0, 0, 0, 0] S1x1x1152x64.size inb_S1x7x1152x64_S1x1x1152x64_0_0_0_0
abbrev r0_4 : Rect S1x7x1152x64 := Rect.unit (s := S1x7x1152x64) ![0, 1, 0, 0] S1x1x1152x64.size inb_S1x7x1152x64_S1x1x1152x64_0_1_0_0
abbrev r0_5 : Rect S1x7x1152x64 := Rect.unit (s := S1x7x1152x64) ![0, 2, 0, 0] S1x1x1152x64.size inb_S1x7x1152x64_S1x1x1152x64_0_2_0_0
abbrev r0_6 : Rect S1x7x1152x64 := Rect.unit (s := S1x7x1152x64) ![0, 3, 0, 0] S1x1x1152x64.size inb_S1x7x1152x64_S1x1x1152x64_0_3_0_0
abbrev r0_7 : Rect S1x7x1152x64 := Rect.unit (s := S1x7x1152x64) ![0, 4, 0, 0] S1x1x1152x64.size inb_S1x7x1152x64_S1x1x1152x64_0_4_0_0
abbrev r0_8 : Rect S1x7x1152x64 := Rect.unit (s := S1x7x1152x64) ![0, 5, 0, 0] S1x1x1152x64.size inb_S1x7x1152x64_S1x1x1152x64_0_5_0_0
abbrev r0_9 : Rect S1x7x1152x64 := Rect.unit (s := S1x7x1152x64) ![0, 6, 0, 0] S1x1x1152x64.size inb_S1x7x1152x64_S1x1x1152x64_0_6_0_0
abbrev r0_10 : Rect S1x1x7x384 := Rect.unit (s := S1x1x7x384) ![0, 0, 0, 0] S1x1x7x384.size inb_S1x1x7x384_S1x1x7x384_0_0_0_0

/-! ## What the body leaves in each output window's buffer -/

/-- The strip's projection, its columns split in windows of eight (the body binds it once and reads it in several payloads). -/
def k0_val (x0 : Vec F S1x8x56x384 .f32) (x1 : Vec F S384x1152 .f32) (x2 : Vec F S1x1152 .f32) : FVec F S8x7x8x1152 .f32 :=
  k0_pay6 (View.ld x0 r0_0) (View.ld x1 r0_1) (View.ld x2 r0_2) -- `v10`

/-- Window 3's staging buffer after the body, from the input windows' blocks: its 7 stores as pieces, LAST
    FIRST (Lib/Pipeline/FrameBody.lean `View.canon`; the payloads are the skeleton's and the values stated above). -/
def out0_3 (x0 : Vec F S1x8x56x384 .f32) (x1 : Vec F S384x1152 .f32) (x2 : Vec F S1x1152 .f32) : Vec F S1x7x1152x64 .bf16 :=
  View.canon [⟨r0_9, k0_pay14 (k0_val x0 x1 x2)⟩,
    ⟨r0_8, k0_pay13 (k0_val x0 x1 x2)⟩,
    ⟨r0_7, k0_pay12 (k0_val x0 x1 x2)⟩,
    ⟨r0_6, k0_pay11 (k0_val x0 x1 x2)⟩,
    ⟨r0_5, k0_pay10 (k0_pay9 (View.ld x0 r0_0) (View.ld x1 r0_1) (View.ld x2 r0_2))⟩,
    ⟨r0_4, k0_pay8 (View.ld x0 r0_0) (View.ld x1 r0_1) (View.ld x2 r0_2)⟩,
    ⟨r0_3, k0_pay7 (View.ld x0 r0_0) (View.ld x1 r0_1) (View.ld x2 r0_2)⟩]

/-- Its stores tile the buffer (checked by evaluation), so they cover it. -/
theorem cover0_3 (p0 : Vec F S1x1x1152x64 .bf16) (p1 : Vec F S1x1x1152x64 .bf16) (p2 : Vec F S1x1x1152x64 .bf16) (p3 : Vec F S1x1x1152x64 .bf16) (p4 : Vec F S1x1x1152x64 .bf16) (p5 : Vec F S1x1x1152x64 .bf16) (p6 : Vec F S1x1x1152x64 .bf16) (y : S1x7x1152x64.Idx) :
    ∃ pc ∈ ([⟨r0_9, p0⟩, ⟨r0_8, p1⟩, ⟨r0_7, p2⟩, ⟨r0_6, p3⟩, ⟨r0_5, p4⟩, ⟨r0_4, p5⟩, ⟨r0_3, p6⟩] : List (View.Piece (Elt F) S1x7x1152x64 .bf16)), y ∈ pc.1.set :=
  View.cover_of_tiled [⟨r0_9, p0⟩, ⟨r0_8, p1⟩, ⟨r0_7, p2⟩, ⟨r0_6, p3⟩, ⟨r0_5, p4⟩, ⟨r0_4, p5⟩, ⟨r0_3, p6⟩] S1x1x1152x64.size (by rfl) y

/-- Window 4's staging buffer after the body, from the input windows' blocks: its 1 store as pieces, LAST
    FIRST (Lib/Pipeline/FrameBody.lean `View.canon`; the payloads are the skeleton's and the values stated above). -/
def out0_4 (x0 : Vec F S1x8x56x384 .f32) (x1 : Vec F S384x1152 .f32) (x2 : Vec F S1x1152 .f32) : Vec F S1x8x56x384 .bf16 :=
  View.canon [⟨r0_0, k0_pay1 (k0_pay15 (k0_pay5 (View.ld x0 r0_0) (View.ld x1 r0_1) (View.ld x2 r0_2)))⟩]

/-- Its stores tile the buffer (checked by evaluation), so they cover it. -/
theorem cover0_4 (p0 : Vec F S1x8x56x384 .bf16) (y : S1x8x56x384.Idx) :
    ∃ pc ∈ ([⟨r0_0, p0⟩] : List (View.Piece (Elt F) S1x8x56x384 .bf16)), y ∈ pc.1.set :=
  View.cover_of_tiled [⟨r0_0, p0⟩] S1x8x56x384.size (by rfl) y

/-- Window 5's staging buffer after the body, from the input windows' blocks: its 1 store as pieces, LAST
    FIRST (Lib/Pipeline/FrameBody.lean `View.canon`; the payloads are the skeleton's and the values stated above). -/
def out0_5 (x0 : Vec F S1x8x56x384 .f32) (x1 : Vec F S384x1152 .f32) (x2 : Vec F S1x1152 .f32) : Vec F S1x1x7x384 .f32 :=
  View.canon [⟨r0_10, k0_pay3 (k0_val x0 x1 x2)⟩]

/-- Its stores tile the buffer (checked by evaluation), so they cover it. -/
theorem cover0_5 (p0 : Vec F S1x1x7x384 .f32) (y : S1x1x7x384.Idx) :
    ∃ pc ∈ ([⟨r0_10, p0⟩] : List (View.Piece (Elt F) S1x1x7x384 .f32)), y ∈ pc.1.set :=
  View.cover_of_tiled [⟨r0_10, p0⟩] S1x1x7x384.size (by rfl) y

/-- Window 6's staging buffer after the body, from the input windows' blocks: its 1 store as pieces, LAST
    FIRST (Lib/Pipeline/FrameBody.lean `View.canon`; the payloads are the skeleton's and the values stated above). -/
def out0_6 (x0 : Vec F S1x8x56x384 .f32) (x1 : Vec F S384x1152 .f32) (x2 : Vec F S1x1152 .f32) : Vec F S1x1x7x384 .f32 :=
  View.canon [⟨r0_10, k0_pay4 (k0_val x0 x1 x2)⟩]

/-- Its stores tile the buffer (checked by evaluation), so they cover it. -/
theorem cover0_6 (p0 : Vec F S1x1x7x384 .f32) (y : S1x1x7x384.Idx) :
    ∃ pc ∈ ([⟨r0_10, p0⟩] : List (View.Piece (Elt F) S1x1x7x384 .f32)), y ∈ pc.1.set :=
  View.cover_of_tiled [⟨r0_10, p0⟩] S1x1x7x384.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x8x56x384 .f32) (harg2 : arg2.IsWhole) (arg3 : Memref sig .tc .vmem S384x1152 .f32) (harg3 : arg3.IsWhole) (arg4 : Memref sig .tc .vmem S1x1152 .f32) (harg4 : arg4.IsWhole) (arg5 : Memref sig .tc .vmem S1x7x1152x64 .bf16) (harg5 : arg5.IsWhole) (arg6 : Memref sig .tc .vmem S1x8x56x384 .bf16) (harg6 : arg6.IsWhole) (arg7 : Memref sig .tc .vmem S1x1x7x384 .f32) (harg7 : arg7.IsWhole) (arg8 : Memref sig .tc .vmem S1x1x7x384 .f32) (harg8 : arg8.IsWhole)
    (x0 : Vec F S1x8x56x384 .f32) (x1 : Vec F S384x1152 .f32) (x2 : Vec F S1x1152 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2) ∗ owns (c : Thread nD τ) arg6 fullShare (out0_4 x0 x1 x2) ∗ owns (c : Thread nD τ) arg7 fullShare (out0_5 x0 x1 x2) ∗ owns (c : Thread nD τ) arg8 fullShare (out0_6 x0 x1 x2)) -∗ K ⟨⟩))
      ⊢ wp frame (wpE (defs₀ (F := F)) Variants.none c none) E (cc0__stage1 i arg2 harg2 arg3 harg3 arg4 harg4 arg5 harg5 arg6 harg6 arg7 harg7 arg8 harg8) K := by
  simp only [cc0__stage1_eq_skeleton]; unfold cc0__stage1_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _ _ _ _ _ _ _)).trans ?_
    rfl
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  iexists _; isplitr
  swap; · iexact H6
  ipureintro
  refine (View.read_writes_eq_canon _ _ _ (cover0_6 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => out0_3 (iblk V c 0 t) (iblk V c 1 t) (iblk V c 2 t)
    | ⟨4, _⟩ => out0_4 (iblk V c 0 t) (iblk V c 1 t) (iblk V c 2 t)
    | ⟨5, _⟩ => out0_5 (iblk V c 0 t) (iblk V c 1 t) (iblk V c 2 t)
    | ⟨6, _⟩ => out0_6 (iblk V c 0 t) (iblk V c 1 t) (iblk V c 2 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Proc.devRef .tc (Pipeline.arrRef spec0 w)) := by
  dsimp only [dat]

/-- What the body leaves, window by window (the proof data's `match` reduced by `dsimp`, never `rfl`: Lib/Pipeline.lean `Dat`). -/
theorem after0_0 (c : Dev nD) (t : Fin cfg0.N) : (dat V c).after 0 t = iblk V c 0 t := by dsimp only [dat]
/-- The body leaves input window 1's buffer at its block. -/
theorem after0_1 (c : Dev nD) (t : Fin cfg0.N) : (dat V c).after 1 t = iblk V c 1 t := by dsimp only [dat]
/-- The body leaves input window 2's buffer at its block. -/
theorem after0_2 (c : Dev nD) (t : Fin cfg0.N) : (dat V c).after 2 t = iblk V c 2 t := by dsimp only [dat]
/-- Output window 3's buffer leaves a point at what the body computes from the input blocks. -/
theorem after0_3 (c : Dev nD) (t : Fin cfg0.N) : (dat V c).after 3 t = out0_3 (iblk V c 0 t) (iblk V c 1 t) (iblk V c 2 t) := by dsimp only [dat]
/-- Output window 4's buffer leaves a point at what the body computes from the input blocks. -/
theorem after0_4 (c : Dev nD) (t : Fin cfg0.N) : (dat V c).after 4 t = out0_4 (iblk V c 0 t) (iblk V c 1 t) (iblk V c 2 t) := by dsimp only [dat]
/-- Output window 5's buffer leaves a point at what the body computes from the input blocks. -/
theorem after0_5 (c : Dev nD) (t : Fin cfg0.N) : (dat V c).after 5 t = out0_5 (iblk V c 0 t) (iblk V c 1 t) (iblk V c 2 t) := by dsimp only [dat]
/-- Output window 6's buffer leaves a point at what the body computes from the input blocks. -/
theorem after0_6 (c : Dev nD) (t : Fin cfg0.N) : (dat V c).after 6 t = out0_6 (iblk V c 0 t) (iblk V c 1 t) (iblk V c 2 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
/-- Input window 1's buffer holds its block when the body starts. -/
theorem before0_1 (c : Dev nD) (t : Fin cfg0.N) (d) : (dat V c).before 1 t d = iblk V c 1 t :=
  before0_1_of V (dat V c) (A_eq V c 1) (after0_1 V c) t d
/-- Input window 2's buffer holds its block when the body starts. -/
theorem before0_2 (c : Dev nD) (t : Fin cfg0.N) (d) : (dat V c).before 2 t d = iblk V c 2 t :=
  before0_2_of V (dat V c) (A_eq V c 2) (after0_2 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat V c).Φ t.succ = (dat V c).Φ t.castSucc from rfl,
    show (dat V c).owesAt () t.succ = (dat V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Stage1

end

end
-- ==== Proof.Ideal.Route.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Claim
public import Idealize.ShloMosaic.Lib.Ring
public import Idealize.ShloMosaic.Lib.Tactic
public import Idealize.ShloMosaic.Lib.WordCmp

/-! The routing call: the four best windows per window. What its body leaves, and the call's proof data over any contents at its entry. -/

@[expose] public section

set_option maxRecDepth 16384

noncomputable section

namespace Cert.KernelIdeal.Route

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- The contents of every buffer when the call is entered, per core.
variable (V : Dev nD → Valuation τ sig (Elt F))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Proc.devRef .tc (Pipeline.arrRef spec1 0)))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Proc.devRef .tc (Pipeline.arrRef spec1 1)))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1x7x7x384 := Rect.unit (s := S1x7x7x384) ![0, 0, 0, 0] S1x7x7x384.size inb_S1x7x7x384_S1x7x7x384_0_0_0_0
abbrev r0_1 : Rect S1x49x128 := Rect.unit (s := S1x49x128) ![0, 0, 0] S1x49x128.size inb_S1x49x128_S1x49x128_0_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S1x7x7x384 .f32) (x1 : Vec F S1x7x7x384 .f32) : Vec F S1x49x128 .i32 :=
  View.canon [⟨r0_1, k1_pay1 (iota .tc S49x49 32 [1] iota_S49x49_d1_w32) (k1_pay3 (View.ld x0 r0_0) (View.ld x1 r0_0)) (k1_pay5 (View.ld x0 r0_0) (View.ld x1 r0_0)) (k1_pay6 (View.ld x0 r0_0) (View.ld x1 r0_0)) (k1_pay7 (View.ld x0 r0_0) (View.ld x1 r0_0))⟩]

/-- Its stores tile the buffer (checked by evaluation), so they cover it. -/
theorem cover0_2 (p0 : Vec F S1x49x128 .i32) (y : S1x49x128.Idx) :
    ∃ pc ∈ ([⟨r0_1, p0⟩] : List (View.Piece (Elt F) S1x49x128 .i32)), y ∈ pc.1.set :=
  View.cover_of_tiled [⟨r0_1, p0⟩] S1x49x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid1.Coords) (arg1 : Memref sig .tc .vmem S1x7x7x384 .f32) (harg1 : arg1.IsWhole) (arg2 : Memref sig .tc .vmem S1x7x7x384 .f32) (harg2 : arg2.IsWhole) (arg3 : Memref sig .tc .vmem S1x49x128 .i32) (harg3 : arg3.IsWhole)
    (x0 : Vec F S1x7x7x384 .f32) (x1 : Vec F S1x7x7x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc1__route i arg1 harg1 arg2 harg2 arg3 harg3) K := by
  simp only [cc1__route_eq_skeleton]; unfold cc1__route_skel
  simp only [k1_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => out0_2 (iblk V c 0 t) (iblk V c 1 t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Proc.devRef .tc (Pipeline.arrRef spec1 w)) := by
  dsimp only [dat]

/-- What the body leaves, window by window (the proof data's `match` reduced by `dsimp`, never `rfl`: Lib/Pipeline.lean `Dat`). -/
theorem after0_0 (c : Dev nD) (t : Fin cfg1.N) : (dat V c).after 0 t = iblk V c 0 t := by dsimp only [dat]
/-- The body leaves input window 1's buffer at its block. -/
theorem after0_1 (c : Dev nD) (t : Fin cfg1.N) : (dat V c).after 1 t = iblk V c 1 t := by dsimp only [dat]
/-- Output window 2's buffer leaves a point at what the body computes from the input blocks. -/
theorem after0_2 (c : Dev nD) (t : Fin cfg1.N) : (dat V c).after 2 t = out0_2 (iblk V c 0 t) (iblk V c 1 t) := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
/-- Input window 1's buffer holds its block when the body starts. -/
theorem before0_1 (c : Dev nD) (t : Fin cfg1.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks (`before0_W`), so `sound_kernel` applies; the invariant and
    the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Route

end

end
-- ==== Proof.Ideal.Attn.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Claim
public import Idealize.ShloMosaic.Lib.Ring
public import Idealize.ShloMosaic.Lib.Tactic
public import Idealize.ShloMosaic.Lib.WordCmp

/-! The attention call: one window against the four windows its row of the table names. What its body leaves in the output staging buffer, and the call's proof data over any contents at its entry and any admissible table. -/

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- The contents of every buffer when the call is entered, per core.
variable (V : Dev nD → Valuation τ sig (Elt F))

abbrev st2_0 (a : (pcfg2 (F := F)).Adm) (t : Fin (cfg2 a).N) := ((cfg2 a).win 0).stage ((cfg2 a).slots t 0)
abbrev st2_1 (a : (pcfg2 (F := F)).Adm) (t : Fin (cfg2 a).N) := ((cfg2 a).win 1).stage ((cfg2 a).slots t 1)
abbrev st2_2 (a : (pcfg2 (F := F)).Adm) (t : Fin (cfg2 a).N) := ((cfg2 a).win 2).stage ((cfg2 a).slots t 2)
abbrev st2_3 (a : (pcfg2 (F := F)).Adm) (t : Fin (cfg2 a).N) := ((cfg2 a).win 3).stage ((cfg2 a).slots t 3)
abbrev st2_4 (a : (pcfg2 (F := F)).Adm) (t : Fin (cfg2 a).N) := ((cfg2 a).win 4).stage ((cfg2 a).slots t 4)
abbrev st2_5 (a : (pcfg2 (F := F)).Adm) (t : Fin (cfg2 a).N) := ((cfg2 a).win 5).stage ((cfg2 a).slots t 5)
abbrev st2_6 (a : (pcfg2 (F := F)).Adm) (t : Fin (cfg2 a).N) := ((cfg2 a).win 6).stage ((cfg2 a).slots t 6)
abbrev st2_7 (a : (pcfg2 (F := F)).Adm) (t : Fin (cfg2 a).N) := ((cfg2 a).win 7).stage ((cfg2 a).slots t 7)
abbrev st2_8 (a : (pcfg2 (F := F)).Adm) (t : Fin (cfg2 a).N) := ((cfg2 a).win 8).stage ((cfg2 a).slots t 8)
abbrev st2_9 (a : (pcfg2 (F := F)).Adm) (t : Fin (cfg2 a).N) := ((cfg2 a).win 9).stage ((cfg2 a).slots t 9)

/-- The kernel body at point `t`, on what the pipeline calls it with (`defs₀`'s row at the slots). -/
abbrev bodyAt2 (a : (pcfg2 (F := F)).Adm) (t : Fin (cfg2 a).N) : Prog (TpuEff nD τ sig (Elt F) Λ₀ .tc) PUnit :=
  cc2__attn (grid2.coords t) (Memref.whole main_v6) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (spec2_5.stage ((cfg2 a).slots t 5)) (hstage2_5 (((cfg2 a).slots t 5).cast nbuf2_5)) (spec2_6.stage ((cfg2 a).slots t 6)) (hstage2_6 (((cfg2 a).slots t 6).cast nbuf2_6)) (spec2_7.stage ((cfg2 a).slots t 7)) (hstage2_7 (((cfg2 a).slots t 7).cast nbuf2_7)) (spec2_8.stage ((cfg2 a).slots t 8)) (hstage2_8 (((cfg2 a).slots t 8).cast nbuf2_8)) (spec2_9.stage ((cfg2 a).slots t 9)) (hstage2_9 (((cfg2 a).slots t 9).cast nbuf2_9))

/-! ## The windows' blocks -/

/-- Window `w`'s block at point `t`, read off its array as the call finds it; the key and value windows' blocks are
    placed by the words of the prefetched table `a`. -/
def iblk (a : (pcfg2 (F := F)).Adm) (V : Dev nD → Valuation τ sig (Elt F)) (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Proc.devRef .tc (Pipeline.arrRef spec2 w)))

variable (a : (pcfg2 (F := F)).Adm)

/-- Input window 0's staging buffer holds its block at every point, for any proof data entered at `V` whose body leaves it. -/
theorem before2_0_of {c : Dev nD} (dat : Dat τ (Elt F) Unit ℕ (UR sig nD τ) ℕ (cfg2 a) c) (hA : dat.A 0 = V c (Proc.devRef .tc (Pipeline.arrRef spec2 0)))
    (hafter : ∀ t, dat.after 0 t = iblk a V c 0 t) (t : Fin (cfg2 a).N) (d) : dat.before 0 t d = iblk a V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data entered at `V` whose body leaves it. -/
theorem before2_1_of {c : Dev nD} (dat : Dat τ (Elt F) Unit ℕ (UR sig nD τ) ℕ (cfg2 a) c) (hA : dat.A 1 = V c (Proc.devRef .tc (Pipeline.arrRef spec2 1)))
    (hafter : ∀ t, dat.after 1 t = iblk a V c 1 t) (t : Fin (cfg2 a).N) (d) : dat.before 1 t d = iblk a V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data entered at `V` whose body leaves it. -/
theorem before2_2_of {c : Dev nD} (dat : Dat τ (Elt F) Unit ℕ (UR sig nD τ) ℕ (cfg2 a) c) (hA : dat.A 2 = V c (Proc.devRef .tc (Pipeline.arrRef spec2 2)))
    (hafter : ∀ t, dat.after 2 t = iblk a V c 2 t) (t : Fin (cfg2 a).N) (d) : dat.before 2 t d = iblk a V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data entered at `V` whose body leaves it. -/
theorem before2_3_of {c : Dev nD} (dat : Dat τ (Elt F) Unit ℕ (UR sig nD τ) ℕ (cfg2 a) c) (hA : dat.A 3 = V c (Proc.devRef .tc (Pipeline.arrRef spec2 3)))
    (hafter : ∀ t, dat.after 3 t = iblk a V c 3 t) (t : Fin (cfg2 a).N) (d) : dat.before 3 t d = iblk a V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data entered at `V` whose body leaves it. -/
theorem before2_4_of {c : Dev nD} (dat : Dat τ (Elt F) Unit ℕ (UR sig nD τ) ℕ (cfg2 a) c) (hA : dat.A 4 = V c (Proc.devRef .tc (Pipeline.arrRef spec2 4)))
    (hafter : ∀ t, dat.after 4 t = iblk a V c 4 t) (t : Fin (cfg2 a).N) (d) : dat.before 4 t d = iblk a V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data entered at `V` whose body leaves it. -/
theorem before2_5_of {c : Dev nD} (dat : Dat τ (Elt F) Unit ℕ (UR sig nD τ) ℕ (cfg2 a) c) (hA : dat.A 5 = V c (Proc.devRef .tc (Pipeline.arrRef spec2 5)))
    (hafter : ∀ t, dat.after 5 t = iblk a V c 5 t) (t : Fin (cfg2 a).N) (d) : dat.before 5 t d = iblk a V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data entered at `V` whose body leaves it. -/
theorem before2_6_of {c : Dev nD} (dat : Dat τ (Elt F) Unit ℕ (UR sig nD τ) ℕ (cfg2 a) c) (hA : dat.A 6 = V c (Proc.devRef .tc (Pipeline.arrRef spec2 6)))
    (hafter : ∀ t, dat.after 6 t = iblk a V c 6 t) (t : Fin (cfg2 a).N) (d) : dat.before 6 t d = iblk a V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data entered at `V` whose body leaves it. -/
theorem before2_7_of {c : Dev nD} (dat : Dat τ (Elt F) Unit ℕ (UR sig nD τ) ℕ (cfg2 a) c) (hA : dat.A 7 = V c (Proc.devRef .tc (Pipeline.arrRef spec2 7)))
    (hafter : ∀ t, dat.after 7 t = iblk a V c 7 t) (t : Fin (cfg2 a).N) (d) : dat.before 7 t d = iblk a V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, for any proof data entered at `V` whose body leaves it. -/
theorem before2_8_of {c : Dev nD} (dat : Dat τ (Elt F) Unit ℕ (UR sig nD τ) ℕ (cfg2 a) c) (hA : dat.A 8 = V c (Proc.devRef .tc (Pipeline.arrRef spec2 8)))
    (hafter : ∀ t, dat.after 8 t = iblk a V c 8 t) (t : Fin (cfg2 a).N) (d) : dat.before 8 t d = iblk a V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## What the body leaves -/

abbrev r2_0 : Rect S1x1x384x64 := Rect.unit (s := S1x1x384x64) ![0, 0, 0, 0] S1x1x384x64.size inb_S1x1x384x64_S1x1x384x64_0_0_0_0

/-- The output window's staging buffer after the body, from the query block, the four key blocks and the four value blocks. -/
def out2_9 (x0 : Vec F S1x1x384x64 .bf16) (x1 : Vec F S1x1x384x64 .bf16) (x2 : Vec F S1x1x384x64 .bf16) (x3 : Vec F S1x1x384x64 .bf16) (x4 : Vec F S1x1x384x64 .bf16) (x5 : Vec F S1x1x384x64 .bf16) (x6 : Vec F S1x1x384x64 .bf16) (x7 : Vec F S1x1x384x64 .bf16) (x8 : Vec F S1x1x384x64 .bf16) : Vec F S1x1x384x64 .bf16 :=
  View.canon [⟨r2_0, k2_pay1 (k2_pay2 (View.ld x5 r2_0) (View.ld x6 r2_0) (View.ld x7 r2_0) (View.ld x8 r2_0)) (k2_pay3 (View.ld x0 r2_0))
    (k2_pay4 (View.ld x1 r2_0) (View.ld x2 r2_0) (View.ld x3 r2_0) (View.ld x4 r2_0))⟩]

/-- Its one store covers the buffer. -/
theorem cover2_9 (p0 : Vec F S1x1x384x64 .bf16) (y : S1x1x384x64.Idx) :
    ∃ pc ∈ ([⟨r2_0, p0⟩] : List (View.Piece (Elt F) S1x1x384x64 .bf16)), y ∈ pc.1.set :=
  View.cover_of_tiled [⟨r2_0, p0⟩] S1x1x384x64.size (by rfl) y

set_option maxHeartbeats 1000000 in
/-- The kernel body on whole staging memrefs: the inputs' contents stay, the output's becomes `out2_9` of them. The table is not touched. -/
theorem sound_kernel (c : Dev nD) (E : Set ℕ) (i : grid2.Coords) (arg2 : Memref sig .tc .smem S4x49x128 .i32) (harg2 : arg2.IsWhole) (arg3 : Memref sig .tc .vmem S1x1x384x64 .bf16) (harg3 : arg3.IsWhole) (arg4 : Memref sig .tc .vmem S1x1x384x64 .bf16) (harg4 : arg4.IsWhole) (arg5 : Memref sig .tc .vmem S1x1x384x64 .bf16) (harg5 : arg5.IsWhole) (arg6 : Memref sig .tc .vmem S1x1x384x64 .bf16) (harg6 : arg6.IsWhole) (arg7 : Memref sig .tc .vmem S1x1x384x64 .bf16) (harg7 : arg7.IsWhole) (arg8 : Memref sig .tc .vmem S1x1x384x64 .bf16) (harg8 : arg8.IsWhole) (arg9 : Memref sig .tc .vmem S1x1x384x64 .bf16) (harg9 : arg9.IsWhole) (arg10 : Memref sig .tc .vmem S1x1x384x64 .bf16) (harg10 : arg10.IsWhole) (arg11 : Memref sig .tc .vmem S1x1x384x64 .bf16) (harg11 : arg11.IsWhole) (arg12 : Memref sig .tc .vmem S1x1x384x64 .bf16) (harg12 : arg12.IsWhole)
    (x0 : Vec F S1x1x384x64 .bf16) (x1 : Vec F S1x1x384x64 .bf16) (x2 : Vec F S1x1x384x64 .bf16) (x3 : Vec F S1x1x384x64 .bf16) (x4 : Vec F S1x1x384x64 .bf16) (x5 : Vec F S1x1x384x64 .bf16) (x6 : Vec F S1x1x384x64 .bf16) (x7 : Vec F S1x1x384x64 .bf16) (x8 : Vec F S1x1x384x64 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (out2_9 x0 x1 x2 x3 x4 x5 x6 x7 x8)) -∗ K ⟨⟩))
      ⊢ wp frame (wpE (defs₀ (F := F)) Variants.none c none) E (cc2__attn i arg2 harg2 arg3 harg3 arg4 harg4 arg5 harg5 arg6 harg6 arg7 harg7 arg8 harg8 arg9 harg9 arg10 harg10 arg11 harg11 arg12 harg12) K := by
  simp only [cc2__attn_eq_skeleton]; unfold cc2__attn_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (cover2_9 _)).trans ?_
  rfl

/-! ## The call's proof data -/

/-- The call's proof data on core `c`: the arrays at `V`; each input's buffer at its block and the output's at `out2_9` of the blocks;
    the invariant the scoped rest, the generator register and the prefetched table whole; nothing owed; the shared array's
    share dealt among its nine windows. -/
def dat (c : Dev nD) : Dat τ (Elt F) Unit ℕ (UR sig nD τ) ℕ (cfg2 a) c where
  A w := V c (Proc.devRef .tc (Pipeline.arrRef spec2 w))
  after w t := match w with
    | ⟨0, _⟩ => iblk a V c 0 t
    | ⟨1, _⟩ => iblk a V c 1 t
    | ⟨2, _⟩ => iblk a V c 2 t
    | ⟨3, _⟩ => iblk a V c 3 t
    | ⟨4, _⟩ => iblk a V c 4 t
    | ⟨5, _⟩ => iblk a V c 5 t
    | ⟨6, _⟩ => iblk a V c 6 t
    | ⟨7, _⟩ => iblk a V c 7 t
    | ⟨8, _⟩ => iblk a V c 8 t
    | ⟨9, _⟩ => out2_9 (iblk a V c 0 t) (iblk a V c 1 t) (iblk a V c 2 t) (iblk a V c 3 t) (iblk a V c 4 t) (iblk a V c 5 t) (iblk a V c 6 t) (iblk a V c 7 t) (iblk a V c 8 t)
  Φ _ := iprop(Pipeline.ΦA spec2 c ∗ Pipeline.prefHeld pre2 c (fun _ => fullShare) a.1)
  q w := Pipeline.shareOf spec2 w
  owed _ := 0

/-- The proof data enter the arrays at `V`. -/
theorem A_eq (c : Dev nD) (w : Fin (cfg2 a).W) : (dat V a c).A w = V c (Proc.devRef .tc (Pipeline.arrRef spec2 w)) := by
  dsimp only [dat]

/-- The body leaves input window 0's buffer at its block. -/
theorem after2_0 (c : Dev nD) (t : Fin (cfg2 a).N) : (dat V a c).after 0 t = iblk a V c 0 t := by dsimp only [dat]; try rfl
/-- The body leaves input window 1's buffer at its block. -/
theorem after2_1 (c : Dev nD) (t : Fin (cfg2 a).N) : (dat V a c).after 1 t = iblk a V c 1 t := by dsimp only [dat]; try rfl
/-- The body leaves input window 2's buffer at its block. -/
theorem after2_2 (c : Dev nD) (t : Fin (cfg2 a).N) : (dat V a c).after 2 t = iblk a V c 2 t := by dsimp only [dat]; try rfl
/-- The body leaves input window 3's buffer at its block. -/
theorem after2_3 (c : Dev nD) (t : Fin (cfg2 a).N) : (dat V a c).after 3 t = iblk a V c 3 t := by dsimp only [dat]; try rfl
/-- The body leaves input window 4's buffer at its block. -/
theorem after2_4 (c : Dev nD) (t : Fin (cfg2 a).N) : (dat V a c).after 4 t = iblk a V c 4 t := by dsimp only [dat]; try rfl
/-- The body leaves input window 5's buffer at its block. -/
theorem after2_5 (c : Dev nD) (t : Fin (cfg2 a).N) : (dat V a c).after 5 t = iblk a V c 5 t := by dsimp only [dat]; try rfl
/-- The body leaves input window 6's buffer at its block. -/
theorem after2_6 (c : Dev nD) (t : Fin (cfg2 a).N) : (dat V a c).after 6 t = iblk a V c 6 t := by dsimp only [dat]; try rfl
/-- The body leaves input window 7's buffer at its block. -/
theorem after2_7 (c : Dev nD) (t : Fin (cfg2 a).N) : (dat V a c).after 7 t = iblk a V c 7 t := by dsimp only [dat]; try rfl
/-- The body leaves input window 8's buffer at its block. -/
theorem after2_8 (c : Dev nD) (t : Fin (cfg2 a).N) : (dat V a c).after 8 t = iblk a V c 8 t := by dsimp only [dat]; try rfl
/-- Output window 9's buffer leaves a point at what the body computes from the input blocks. -/
theorem after2_9 (c : Dev nD) (t : Fin (cfg2 a).N) : (dat V a c).after 9 t = out2_9 (iblk a V c 0 t) (iblk a V c 1 t) (iblk a V c 2 t) (iblk a V c 3 t) (iblk a V c 4 t) (iblk a V c 5 t) (iblk a V c 6 t) (iblk a V c 7 t) (iblk a V c 8 t) := by dsimp only [dat]; try rfl

/-- Input window 0's buffer holds its block when the body starts. -/
theorem before2_0 (c : Dev nD) (t : Fin (cfg2 a).N) (d) : (dat V a c).before 0 t d = iblk a V c 0 t :=
  before2_0_of V a (dat V a c) (A_eq V a c 0) (after2_0 V a c) t d
/-- Input window 1's buffer holds its block when the body starts. -/
theorem before2_1 (c : Dev nD) (t : Fin (cfg2 a).N) (d) : (dat V a c).before 1 t d = iblk a V c 1 t :=
  before2_1_of V a (dat V a c) (A_eq V a c 1) (after2_1 V a c) t d
/-- Input window 2's buffer holds its block when the body starts. -/
theorem before2_2 (c : Dev nD) (t : Fin (cfg2 a).N) (d) : (dat V a c).before 2 t d = iblk a V c 2 t :=
  before2_2_of V a (dat V a c) (A_eq V a c 2) (after2_2 V a c) t d
/-- Input window 3's buffer holds its block when the body starts. -/
theorem before2_3 (c : Dev nD) (t : Fin (cfg2 a).N) (d) : (dat V a c).before 3 t d = iblk a V c 3 t :=
  before2_3_of V a (dat V a c) (A_eq V a c 3) (after2_3 V a c) t d
/-- Input window 4's buffer holds its block when the body starts. -/
theorem before2_4 (c : Dev nD) (t : Fin (cfg2 a).N) (d) : (dat V a c).before 4 t d = iblk a V c 4 t :=
  before2_4_of V a (dat V a c) (A_eq V a c 4) (after2_4 V a c) t d
/-- Input window 5's buffer holds its block when the body starts. -/
theorem before2_5 (c : Dev nD) (t : Fin (cfg2 a).N) (d) : (dat V a c).before 5 t d = iblk a V c 5 t :=
  before2_5_of V a (dat V a c) (A_eq V a c 5) (after2_5 V a c) t d
/-- Input window 6's buffer holds its block when the body starts. -/
theorem before2_6 (c : Dev nD) (t : Fin (cfg2 a).N) (d) : (dat V a c).before 6 t d = iblk a V c 6 t :=
  before2_6_of V a (dat V a c) (A_eq V a c 6) (after2_6 V a c) t d
/-- Input window 7's buffer holds its block when the body starts. -/
theorem before2_7 (c : Dev nD) (t : Fin (cfg2 a).N) (d) : (dat V a c).before 7 t d = iblk a V c 7 t :=
  before2_7_of V a (dat V a c) (A_eq V a c 7) (after2_7 V a c) t d
/-- Input window 8's buffer holds its block when the body starts. -/
theorem before2_8 (c : Dev nD) (t : Fin (cfg2 a).N) (d) : (dat V a c).before 8 t d = iblk a V c 8 t :=
  before2_8_of V a (dat V a c) (A_eq V a c 8) (after2_8 V a c) t d

/-! ## The body obligation -/

/-- What the body is called with at point `t`, the windows one by one, -/
def bodyPre (c : Dev nD) (t : Fin (cfg2 a).N) : sProp 𝕄 :=
  iprop((dat V a c).Φ t.castSucc ∗ (dat V a c).owesAt () t.castSucc
    ∗ (∃ d, owns (c : Thread nD τ) (st2_0 a t) fullShare ((dat V a c).before 0 t d))
    ∗ (∃ d, owns (c : Thread nD τ) (st2_1 a t) fullShare ((dat V a c).before 1 t d))
    ∗ (∃ d, owns (c : Thread nD τ) (st2_2 a t) fullShare ((dat V a c).before 2 t d))
    ∗ (∃ d, owns (c : Thread nD τ) (st2_3 a t) fullShare ((dat V a c).before 3 t d))
    ∗ (∃ d, owns (c : Thread nD τ) (st2_4 a t) fullShare ((dat V a c).before 4 t d))
    ∗ (∃ d, owns (c : Thread nD τ) (st2_5 a t) fullShare ((dat V a c).before 5 t d))
    ∗ (∃ d, owns (c : Thread nD τ) (st2_6 a t) fullShare ((dat V a c).before 6 t d))
    ∗ (∃ d, owns (c : Thread nD τ) (st2_7 a t) fullShare ((dat V a c).before 7 t d))
    ∗ (∃ d, owns (c : Thread nD τ) (st2_8 a t) fullShare ((dat V a c).before 8 t d))
    ∗ (∃ d, owns (c : Thread nD τ) (st2_9 a t) fullShare ((dat V a c).before 9 t d)))

/-- and what it returns. -/
def bodyPost (c : Dev nD) (t : Fin (cfg2 a).N) : sProp 𝕄 :=
  iprop((dat V a c).Φ t.succ ∗ (dat V a c).owesAt () t.succ
    ∗ owns (c : Thread nD τ) (st2_0 a t) fullShare ((dat V a c).after 0 t)
    ∗ owns (c : Thread nD τ) (st2_1 a t) fullShare ((dat V a c).after 1 t)
    ∗ owns (c : Thread nD τ) (st2_2 a t) fullShare ((dat V a c).after 2 t)
    ∗ owns (c : Thread nD τ) (st2_3 a t) fullShare ((dat V a c).after 3 t)
    ∗ owns (c : Thread nD τ) (st2_4 a t) fullShare ((dat V a c).after 4 t)
    ∗ owns (c : Thread nD τ) (st2_5 a t) fullShare ((dat V a c).after 5 t)
    ∗ owns (c : Thread nD τ) (st2_6 a t) fullShare ((dat V a c).after 6 t)
    ∗ owns (c : Thread nD τ) (st2_7 a t) fullShare ((dat V a c).after 7 t)
    ∗ owns (c : Thread nD τ) (st2_8 a t) fullShare ((dat V a c).after 8 t)
    ∗ owns (c : Thread nD τ) (st2_9 a t) fullShare ((dat V a c).after 9 t))

/-- The body at any point: the inputs' memrefs hold their blocks, so `sound_kernel` applies; the invariant and the core's dues pass through. -/
theorem sound_body (c : Dev nD) (t : Fin (cfg2 a).N) :
    bodyPre V a c t ⊢ wp frame (wpE (defs₀ (F := F)) Variants.none c none) Set.univ (bodyAt2 a t) (fun _ => bodyPost V a c t) := by
  unfold bodyPre bodyPost bodyAt2
  simp only [before2_0, before2_1, before2_2, before2_3, before2_4, before2_5, before2_6, before2_7, before2_8]
  rw [show (dat V a c).Φ t.succ = (dat V a c).Φ t.castSucc from rfl,
    show (dat V a c).owesAt () t.succ = (dat V a c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid2.coords t) _ _ _ _ _ _ _ _ _ _ _ _ _ _ _ _ _ _ _ _ _ _ (iblk a V c 0 t) (iblk a V c 1 t) (iblk a V c 2 t) (iblk a V c 3 t) (iblk a V c 4 t) (iblk a V c 5 t) (iblk a V c 6 t) (iblk a V c 7 t) (iblk a V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt2` spells it. -/
theorem defs₀_row (t : Fin (cfg2 a).N) :
    defs₀ (F := F) .tc (cfg2 a).body ((cfg2 a).bodyArgs t ((cfg2 a).slots t)) = bodyAt2 a t := by
  unfold defs₀; rw [Defs.onTc_tc]

/-- The library's body obligation, at every point. -/
theorem body_obligation (c : Dev nD) : BodyObligation (dat (F := F) V a c) (defs₀ (F := F)) Variants.none () Set.univ := fun t => by
  rw [bigSep_W2, bigSep_W2, defs₀_row a]
  exact triple_restated (sound_body V a c t) rfl .rfl fun _ => .rfl

end Cert.KernelIdeal.Attn

end

end
-- ==== Proof.Ideal.Stage4.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Claim
public import Idealize.ShloMosaic.Lib.Ring
public import Idealize.ShloMosaic.Lib.Tactic
public import Idealize.ShloMosaic.Lib.WordCmp

/-! The last call: the attended strip put back on the grid, the twenty-five taps of the depthwise filter added, and the output projection. What its body leaves in the output staging buffer, and the call's proof data over any contents at its entry. -/

@[expose] public section

set_option maxRecDepth 16384

noncomputable section

namespace Cert.KernelIdeal.Stage4

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- The contents of every buffer when the call is entered, per core.
variable (V : Dev nD → Valuation τ sig (Elt F))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg3 c) (hA : dat.A 0 = V c (Proc.devRef .tc (Pipeline.arrRef spec3 0)))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg3 c) (hA : dat.A 1 = V c (Proc.devRef .tc (Pipeline.arrRef spec3 1)))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg3 c) (hA : dat.A 2 = V c (Proc.devRef .tc (Pipeline.arrRef spec3 2)))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg3 c) (hA : dat.A 3 = V c (Proc.devRef .tc (Pipeline.arrRef spec3 3)))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg3 c) (hA : dat.A 4 = V c (Proc.devRef .tc (Pipeline.arrRef spec3 4)))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r3_a0 : Rect S1x7x384x64 := Rect.unit (s := S1x7x384x64) ![0, 0, 0, 0] S1x1x384x64.size inb_S1x7x384x64_S1x1x384x64_0_0_0_0
abbrev r3_a1 : Rect S1x7x384x64 := Rect.unit (s := S1x7x384x64) ![0, 1, 0, 0] S1x1x384x64.size inb_S1x7x384x64_S1x1x384x64_0_1_0_0
abbrev r3_a2 : Rect S1x7x384x64 := Rect.unit (s := S1x7x384x64) ![0, 2, 0, 0] S1x1x384x64.size inb_S1x7x384x64_S1x1x384x64_0_2_0_0
abbrev r3_a3 : Rect S1x7x384x64 := Rect.unit (s := S1x7x384x64) ![0, 3, 0, 0] S1x1x384x64.size inb_S1x7x384x64_S1x1x384x64_0_3_0_0
abbrev r3_a4 : Rect S1x7x384x64 := Rect.unit (s := S1x7x384x64) ![0, 4, 0, 0] S1x1x384x64.size inb_S1x7x384x64_S1x1x384x64_0_4_0_0
abbrev r3_a5 : Rect S1x7x384x64 := Rect.unit (s := S1x7x384x64) ![0, 5, 0, 0] S1x1x384x64.size inb_S1x7x384x64_S1x1x384x64_0_5_0_0
abbrev r3_a6 : Rect S1x7x384x64 := Rect.unit (s := S1x7x384x64) ![0, 6, 0, 0] S1x1x384x64.size inb_S1x7x384x64_S1x1x384x64_0_6_0_0
abbrev r3_w0 : Rect S1x25x384 := Rect.unit (s := S1x25x384) ![0, 0, 0] S1x1x384.size inb_S1x25x384_S1x1x384_0_0_0
abbrev r3_w1 : Rect S1x25x384 := Rect.unit (s := S1x25x384) ![0, 1, 0] S1x1x384.size inb_S1x25x384_S1x1x384_0_1_0
abbrev r3_w2 : Rect S1x25x384 := Rect.unit (s := S1x25x384) ![0, 2, 0] S1x1x384.size inb_S1x25x384_S1x1x384_0_2_0
abbrev r3_w3 : Rect S1x25x384 := Rect.unit (s := S1x25x384) ![0, 3, 0] S1x1x384.size inb_S1x25x384_S1x1x384_0_3_0
abbrev r3_w4 : Rect S1x25x384 := Rect.unit (s := S1x25x384) ![0, 4, 0] S1x1x384.size inb_S1x25x384_S1x1x384_0_4_0
abbrev r3_w5 : Rect S1x25x384 := Rect.unit (s := S1x25x384) ![0, 5, 0] S1x1x384.size inb_S1x25x384_S1x1x384_0_5_0
abbrev r3_w6 : Rect S1x25x384 := Rect.unit (s := S1x25x384) ![0, 6, 0] S1x1x384.size inb_S1x25x384_S1x1x384_0_6_0
abbrev r3_w7 : Rect S1x25x384 := Rect.unit (s := S1x25x384) ![0, 7, 0] S1x1x384.size inb_S1x25x384_S1x1x384_0_7_0
abbrev r3_w8 : Rect S1x25x384 := Rect.unit (s := S1x25x384) ![0, 8, 0] S1x1x384.size inb_S1x25x384_S1x1x384_0_8_0
abbrev r3_w9 : Rect S1x25x384 := Rect.unit (s := S1x25x384) ![0, 9, 0] S1x1x384.size inb_S1x25x384_S1x1x384_0_9_0
abbrev r3_w10 : Rect S1x25x384 := Rect.unit (s := S1x25x384) ![0, 10, 0] S1x1x384.size inb_S1x25x384_S1x1x384_0_10_0
abbrev r3_w11 : Rect S1x25x384 := Rect.unit (s := S1x25x384) ![0, 11, 0] S1x1x384.size inb_S1x25x384_S1x1x384_0_11_0
abbrev r3_w12 : Rect S1x25x384 := Rect.unit (s := S1x25x384) ![0, 12, 0] S1x1x384.size inb_S1x25x384_S1x1x384_0_12_0
abbrev r3_w13 : Rect S1x25x384 := Rect.unit (s := S1x25x384) ![0, 13, 0] S1x1x384.size inb_S1x25x384_S1x1x384_0_13_0
abbrev r3_w14 : Rect S1x25x384 := Rect.unit (s := S1x25x384) ![0, 14, 0] S1x1x384.size inb_S1x25x384_S1x1x384_0_14_0
abbrev r3_w15 : Rect S1x25x384 := Rect.unit (s := S1x25x384) ![0, 15, 0] S1x1x384.size inb_S1x25x384_S1x1x384_0_15_0
abbrev r3_w16 : Rect S1x25x384 := Rect.unit (s := S1x25x384) ![0, 16, 0] S1x1x384.size inb_S1x25x384_S1x1x384_0_16_0
abbrev r3_w17 : Rect S1x25x384 := Rect.unit (s := S1x25x384) ![0, 17, 0] S1x1x384.size inb_S1x25x384_S1x1x384_0_17_0
abbrev r3_w18 : Rect S1x25x384 := Rect.unit (s := S1x25x384) ![0, 18, 0] S1x1x384.size inb_S1x25x384_S1x1x384_0_18_0
abbrev r3_w19 : Rect S1x25x384 := Rect.unit (s := S1x25x384) ![0, 19, 0] S1x1x384.size inb_S1x25x384_S1x1x384_0_19_0
abbrev r3_w20 : Rect S1x25x384 := Rect.unit (s := S1x25x384) ![0, 20, 0] S1x1x384.size inb_S1x25x384_S1x1x384_0_20_0
abbrev r3_w21 : Rect S1x25x384 := Rect.unit (s := S1x25x384) ![0, 21, 0] S1x1x384.size inb_S1x25x384_S1x1x384_0_21_0
abbrev r3_w22 : Rect S1x25x384 := Rect.unit (s := S1x25x384) ![0, 22, 0] S1x1x384.size inb_S1x25x384_S1x1x384_0_22_0
abbrev r3_w23 : Rect S1x25x384 := Rect.unit (s := S1x25x384) ![0, 23, 0] S1x1x384.size inb_S1x25x384_S1x1x384_0_23_0
abbrev r3_w24 : Rect S1x25x384 := Rect.unit (s := S1x25x384) ![0, 24, 0] S1x1x384.size inb_S1x25x384_S1x1x384_0_24_0
/-- The twelve padded rows strip `i` reads. -/
abbrev r3_v (i : grid3.Coords) : Rect S1x60x60x384 := Rect.unit (s := S1x60x60x384) (k3_off1 i) S1x12x60x384.size (k3_off1_inb i)
abbrev r3_p : Rect S384x384 := Rect.unit (s := S384x384) ![0, 0] S384x384.size inb_S384x384_S384x384_0_0
abbrev r3_b : Rect S1x384 := Rect.unit (s := S1x384) ![0, 0] S1x384.size inb_S1x384_S1x384_0_0
abbrev r3_o : Rect S1x8x56x384 := Rect.unit (s := S1x8x56x384) ![0, 0, 0, 0] S1x8x56x384.size inb_S1x8x56x384_S1x8x56x384_0_0_0_0

/-! ## What the body leaves -/

section Values

variable (i : grid3.Coords) (x0 : Vec F S1x7x384x64 .bf16) (x1 : Vec F S1x60x60x384 .bf16) (x2 : Vec F S1x25x384 .f32)

/-- The twelve padded rows, the leading axis dropped. -/
def rows : FVec F S12x60x384 .bf16 := k3_pay9 (View.ld x1 (r3_v i))
/-- The attended strip plus the taps of the filter's first columns: the accumulator after three taps, -/
def acc3 : FVec F S8x56x384 .f32 :=
  k3_pay10 (k3_pay2 (View.ld x0 r3_a2)) (k3_pay3 (View.ld x0 r3_a3)) (k3_pay4 (View.ld x0 r3_a4)) (k3_pay5 (View.ld x0 r3_a5)) (k3_pay6 (View.ld x0 r3_a6)) (k3_pay7 (View.ld x0 r3_a0)) (k3_pay8 (View.ld x0 r3_a1)) (View.ld x1 (r3_v i)) (View.ld x2 r3_w0) (View.ld x2 r3_w1) (View.ld x2 r3_w2)
/-- after nine, -/
def acc9 : FVec F S8x56x384 .f32 := k3_pay12 (rows i x1) (acc3 i x0 x1 x2) (k3_pay11 (View.ld x1 (r3_v i)) (View.ld x2 r3_w3)) (View.ld x2 r3_w4) (View.ld x2 r3_w5) (View.ld x2 r3_w6) (View.ld x2 r3_w7) (View.ld x2 r3_w8)
/-- after fourteen, -/
def acc14 : FVec F S8x56x384 .f32 := k3_pay13 (rows i x1) (acc9 i x0 x1 x2) (View.ld x2 r3_w9) (View.ld x2 r3_w10) (View.ld x2 r3_w11) (View.ld x2 r3_w12) (View.ld x2 r3_w13)
/-- after twenty, -/
def acc20 : FVec F S8x56x384 .f32 := k3_pay16 (rows i x1) (acc14 i x0 x1 x2) (k3_pay14 (rows i x1)) (k3_pay15 (View.ld x2 r3_w14)) (View.ld x2 r3_w15) (View.ld x2 r3_w16) (View.ld x2 r3_w17) (View.ld x2 r3_w18) (View.ld x2 r3_w19)
/-- and after all twenty-five, as the output projection reads it. -/
def acc25 : FVec F S448x384 .bf16 := k3_pay17 (rows i x1) (acc20 i x0 x1 x2) (View.ld x2 r3_w20) (View.ld x2 r3_w21) (View.ld x2 r3_w22) (View.ld x2 r3_w23) (View.ld x2 r3_w24)

/-- The output window's staging buffer after the body. -/
def out3_5 (x3 : Vec F S384x384 .f32) (x4 : Vec F S1x384 .f32) : Vec F S1x8x56x384 .f32 :=
  View.canon [⟨r3_o, k3_pay1 (acc25 i x0 x1 x2) (k3_pay18 (View.ld x3 r3_p)) (constant S448x384 .f32 0x00000000#32) (View.ld x4 r3_b)⟩]

end Values

/-- Its one store covers the buffer. -/
theorem cover3_5 (p0 : Vec F S1x8x56x384 .f32) (y : S1x8x56x384.Idx) :
    ∃ pc ∈ ([⟨r3_o, p0⟩] : List (View.Piece (Elt F) S1x8x56x384 .f32)), y ∈ pc.1.set :=
  View.cover_of_tiled [⟨r3_o, p0⟩] S1x8x56x384.size (by rfl) y

set_option maxHeartbeats 1000000 in
/-- The kernel body on whole staging memrefs: the inputs' contents stay, the output's becomes `out3_5` of them and of the point. -/
theorem sound_kernel (c : Dev nD) (i : grid3.Coords) (arg2 : Memref sig .tc .vmem S1x7x384x64 .bf16) (harg2 : arg2.IsWhole) (arg3 : Memref sig .tc .vmem S1x60x60x384 .bf16) (harg3 : arg3.IsWhole) (arg4 : Memref sig .tc .vmem S1x25x384 .f32) (harg4 : arg4.IsWhole) (arg5 : Memref sig .tc .vmem S384x384 .f32) (harg5 : arg5.IsWhole) (arg6 : Memref sig .tc .vmem S1x384 .f32) (harg6 : arg6.IsWhole) (arg7 : Memref sig .tc .vmem S1x8x56x384 .f32) (harg7 : arg7.IsWhole)
    (x0 : Vec F S1x7x384x64 .bf16) (x1 : Vec F S1x60x60x384 .bf16) (x2 : Vec F S1x25x384 .f32) (x3 : Vec F S384x384 .f32) (x4 : Vec F S1x384 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out3_5 i x0 x1 x2 x3 x4)) -∗ K ⟨⟩))
          ⊢ wp frame (wpE (defs₀ (F := F)) Variants.none c none) E (cc3__stage4 i arg2 harg2 arg3 harg3 arg4 harg4 arg5 harg5 arg6 harg6 arg7 harg7) K := by
    intro E K
    simp only [cc3__stage4_eq_skeleton]; unfold cc3__stage4_skel
    simp only [k3_part1_eq_skeleton, k3_part2_eq_skeleton, k3_part3_eq_skeleton, k3_part4_eq_skeleton, k3_part5_eq_skeleton, k3_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    subst hf0 hf1 hf2 hf3 hf4
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    refine (View.read_writes_eq_canon _ _ _ (cover3_5 _)).trans ?_
    rfl

/-! ## The pipeline's proof data -/

/-- The proof data of the one pipeline on core `c`: the arrays as the region finds them (`V`); after the body at
    point `t` each input's buffer at its block and the output at `out3_5` of them; the invariant the class's
    (Lib/Pipeline/Frame.lean `ΦA`: the scoped rest and the generator register); nothing owed; full shares. -/
def dat (c : Dev nD) : Dat τ (Elt F) Unit ℕ (UR sig nD τ) ℕ cfg3 c where
  A w := V c (Proc.devRef .tc (Pipeline.arrRef spec3 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out3_5 (grid3.coords t) (iblk V c 0 t) (iblk V c 1 t) (iblk V c 2 t) (iblk V c 3 t) (iblk V c 4 t)
  Φ _ := Pipeline.ΦA spec3 c
  q _ := fullShare
  owed _ := 0

/-- The proof data's arrays are the region-entry contents: the proof data's definition projected (`dsimp`), so that
    `V` — a fold over @main's host prefix, long for some programs — is never unfolded to check it. -/
theorem A_eq (c : Dev nD) (w : Fin cfg3.W) : (dat V c).A w = V c (Proc.devRef .tc (Pipeline.arrRef spec3 w)) := by
  dsimp only [dat]

/-- What the body leaves, window by window (the proof data's `match` reduced by `dsimp`). -/
theorem after0_0 (c : Dev nD) (t : Fin cfg3.N) : (dat V c).after 0 t = iblk V c 0 t := by dsimp only [dat]
/-- The body leaves input window 1's buffer at its block. -/
theorem after0_1 (c : Dev nD) (t : Fin cfg3.N) : (dat V c).after 1 t = iblk V c 1 t := by dsimp only [dat]
/-- The body leaves input window 2's buffer at its block. -/
theorem after0_2 (c : Dev nD) (t : Fin cfg3.N) : (dat V c).after 2 t = iblk V c 2 t := by dsimp only [dat]
/-- The body leaves input window 3's buffer at its block. -/
theorem after0_3 (c : Dev nD) (t : Fin cfg3.N) : (dat V c).after 3 t = iblk V c 3 t := by dsimp only [dat]
/-- The body leaves input window 4's buffer at its block. -/
theorem after0_4 (c : Dev nD) (t : Fin cfg3.N) : (dat V c).after 4 t = iblk V c 4 t := by dsimp only [dat]
/-- Output window 5's buffer leaves a point at what the body computes from the input blocks. -/
theorem after0_5 (c : Dev nD) (t : Fin cfg3.N) : (dat V c).after 5 t = out3_5 (grid3.coords t) (iblk V c 0 t) (iblk V c 1 t) (iblk V c 2 t) (iblk V c 3 t) (iblk V c 4 t) := by dsimp only [dat]

/-- Each input's current staging buffer holds its block at every point, fetched there or not (`beforeK_W_of`). -/
theorem before0_0 (c : Dev nD) (t : Fin cfg3.N) (d) : (dat V c).before 0 t d = iblk V c 0 t :=
  before0_0_of V (dat V c) (A_eq V c 0) (after0_0 V c) t d
/-- Input window 1's buffer holds its block when the body starts. -/
theorem before0_1 (c : Dev nD) (t : Fin cfg3.N) (d) : (dat V c).before 1 t d = iblk V c 1 t :=
  before0_1_of V (dat V c) (A_eq V c 1) (after0_1 V c) t d
/-- Input window 2's buffer holds its block when the body starts. -/
theorem before0_2 (c : Dev nD) (t : Fin cfg3.N) (d) : (dat V c).before 2 t d = iblk V c 2 t :=
  before0_2_of V (dat V c) (A_eq V c 2) (after0_2 V c) t d
/-- Input window 3's buffer holds its block when the body starts. -/
theorem before0_3 (c : Dev nD) (t : Fin cfg3.N) (d) : (dat V c).before 3 t d = iblk V c 3 t :=
  before0_3_of V (dat V c) (A_eq V c 3) (after0_3 V c) t d
/-- Input window 4's buffer holds its block when the body starts. -/
theorem before0_4 (c : Dev nD) (t : Fin cfg3.N) (d) : (dat V c).before 4 t d = iblk V c 4 t :=
  before0_4_of V (dat V c) (A_eq V c 4) (after0_4 V c) t d

/-! ## The body obligation, at a generic point -/

/-- What the body is called with at point `t` (Lib/Pipeline.lean `BodyObligation`'s precondition, the windows one by one), -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

/-- The body at any point: the inputs' memrefs hold their blocks (`before0_W`); so the
    run applies; the invariant passes through unread; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0_0, before0_1, before0_2, before0_3, before0_4]
  rw [show (dat V c).Φ t.succ = (dat V c).Φ t.castSucc from rfl,
    show (dat V c).owesAt () t.succ = (dat V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply ((sound_kernel c (grid3.coords t) _ _ _ _ _ _ _ _ _ _ _ _ (iblk V c 0 t) (iblk V c 1 t) (iblk V c 2 t) (iblk V c 3 t) (iblk V c 4 t)) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt3` spells it. -/
theorem defs₀_row (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W3, bigSep_W3, defs₀_row]
  exact triple_restated (sound_body V c t) rfl .rfl fun _ => .rfl

end Cert.KernelIdeal.Stage4

end

end
-- ==== Proof.Ideal.Run.lean ====
/- The whole program's run on one device: what every buffer holds between the calls, each call's record, the clipped table of winning
   regions inside the range its block indices need, and the run itself — it terminates, its arguments stay, its result is the last of the
   valuations below. -/
module

public import proofs.«01_k».proof.Proof.Ideal.Stage1
public import proofs.«01_k».proof.Proof.Ideal.Route
public import proofs.«01_k».proof.Proof.Ideal.Attn
public import proofs.«01_k».proof.Proof.Ideal.Stage4
public import proofs.«01_k».proof.Proof.Gen.KernelIdeal.Regions
public import Idealize.ShloMosaic.Lib.Pipeline.RegionArraysT

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal.Gen

variable {F : FTy → Type} [FloatOps F] [Named F]

/-! ## The table of winning regions -/

/-- A block index whose batch is below 4, region at most 48, third coordinate at most 2 and last 0 is inside the stacked
    projections, and its rows are whole words. -/
theorem block_ok (ix : Fin S4x49x1152x64.rank → Nat) (h0 : ix 0 < 4) (h1 : ix 1 ≤ 48) (h2 : ix 2 ≤ 2) (h3 : ix 3 = 0) :
    ∃ h : (∀ a, (ix a + 1) * S1x1x384x64.size a ≤ S4x49x1152x64.size a),
      EltTy.bits .bf16 = 32 ∨ (Rect.block (s := S4x49x1152x64) S1x1x384x64.size ix h).WholeWords (EltTy.packing .bf16) := by
  refine ⟨fun a => ?_, .inr (.inl (.inr ⟨(by decide : 2 ≤ 4), rfl, .inl ⟨?_, ?_⟩⟩))⟩
  rotate_left
  · show 2 ∣ ix 2 * 384; exact (by decide : 2 ∣ 384).mul_left _
  · show 2 ∣ 384; decide
  fin_cases a
  · show (ix 0 + 1) * 1 ≤ 4; omega
  · show (ix 1 + 1) * 1 ≤ 49; omega
  · show (ix 2 + 1) * 384 ≤ 1152; omega
  · show (ix 3 + 1) * 64 ≤ 64; omega

/-- A table whose entries are all at most 48 meets the pipeline's side condition. -/
theorem ok2_of_le (pf : pre2.Contents (Elt F)) (h : ∀ j : S4x49x128.Idx, (show BitVec 32 from pf 0 j).toNat ≤ 48) : ok2 pf := by
  have hb : ∀ i : grid2.Coords, (BitVec.ofNat 32 (i 0).val).toNat < 4 := by decide +kernel
  refine ⟨fun i => block_ok _ (hb i) (h _) (Nat.le_of_ble_eq_true rfl) rfl, fun i => block_ok _ (hb i) (h _) (Nat.le_of_ble_eq_true rfl) rfl,
    fun i => block_ok _ (hb i) (h _) (Nat.le_of_ble_eq_true rfl) rfl, fun i => block_ok _ (hb i) (h _) (Nat.le_of_ble_eq_true rfl) rfl,
    fun i => block_ok _ (hb i) (h _) (Nat.le_of_ble_eq_true rfl) rfl, fun i => block_ok _ (hb i) (h _) (Nat.le_of_ble_eq_true rfl) rfl,
    fun i => block_ok _ (hb i) (h _) (Nat.le_of_ble_eq_true rfl) rfl, fun i => block_ok _ (hb i) (h _) (Nat.le_of_ble_eq_true rfl) rfl⟩

/-- A word clipped between 0 and 48, read signed, is at most 48 read unsigned. -/
theorem clip_le (x : BitVec 32) : (IntOp.minsi 48#32 (IntOp.maxsi 0#32 x)).toNat ≤ 48 := by
  unfold IntOp.minsi IntOp.maxsi
  have h48 : (48#32).toInt = 48 := by decide
  have h0 : (0#32).toInt = 0 := by decide
  by_cases hx : x.slt 0#32
  · rw [if_pos hx]; decide
  · rw [if_neg hx]
    by_cases hy : (48#32).slt x
    · rw [if_pos hy]; decide
    · rw [if_neg hy]
      simp only [BitVec.slt, h48, h0, decide_eq_true_eq, not_lt] at hx hy
      have := BitVec.toInt_eq_toNat_cond x
      split at this <;> omega

/-! ## What the buffers hold between the calls -/

variable (m : (ℓ : Loc nD τ sig) → Buf (Elt F) ℓ)

/-- After the host's own preparation of the operands, -/
def U1 (c : Dev nD) : Valuation τ sig (Elt F) := StableHlo.after hostOps0 (V0 m c)
/-- after the projections' call, -/
def U2 (c : Dev nD) : Valuation τ sig (Elt F) := Pipeline.afterRegion (Stage1.dat (U1 m) c) (U1 m c)
/-- after the routing call, -/
def U3 (c : Dev nD) : Valuation τ sig (Elt F) := Pipeline.afterRegion (Route.dat (U2 m) c) (U2 m c)
/-- after the two clip bounds, -/
def U4 (c : Dev nD) : Valuation τ sig (Elt F) := StableHlo.after hostOps2 (U3 m c)
/-- after the clip. -/
def U5 (c : Dev nD) : Valuation τ sig (Elt F) := StableHlo.after hostOps2_1 (U4 m c)

/-- The clipped table is the routing call's one, clipped between 0 and 48. -/
theorem U5_v6 (c : Dev nD) : U5 m c main_v6
    = minsi (broadcastInDim S4x49x128 ![] bcast_S_S4x49x128 (constantI S_ 32 48#32))
        (maxsi (broadcastInDim S4x49x128 ![] bcast_S_S4x49x128 (constantI S_ 32 0#32)) (U3 m c main_v5)) := by
  simp only [U5, U4, StableHlo.after_cons, StableHlo.after_nil, hostOps2_1, hostOps2]
  rfl

/-- The one device. -/
abbrev d0 : Dev nD := 0

/-- The table the attention call is handed, -/
def tab : pre2.Contents (Elt F) := fun k => U5 m d0 (Proc.devRef .tc (pre2.ref k))

/-- which meets the side condition. -/
theorem tab_ok : ok2 (tab m) := ok2_of_le _ fun j => by
  show (show BitVec 32 from U5 m d0 main_v6 j).toNat ≤ 48
  rw [U5_v6]
  exact clip_le _

/-- The tables of the four calls: the attention call's alone is any. -/
def adm : (p : Fin 4) → (pcfgs (F := F) p).Adm := fun | ⟨0, _⟩ => cfg0.toPCfg_adm | ⟨1, _⟩ => cfg1.toPCfg_adm | ⟨2, _⟩ => ⟨tab m, tab_ok m⟩ | ⟨3, _⟩ => cfg3.toPCfg_adm | ⟨_ + 4, h⟩ => absurd h (by omega)

/-- What the attention call leaves in its output array. -/
def attnOut (c : Dev nD) : Buf (Elt F) ((c : Thread nD τ).loc main_v7) := (Attn.dat (U5 m) (adm m 2) c).arrAt 9 (cfg2 (adm m 2)).N
/-- After the attention call, -/
def U6 (c : Dev nD) : Valuation τ sig (Elt F) := Function.update (U5 m c) main_v7 (attnOut m c)
/-- after the padding's value, -/
def U7 (c : Dev nD) : Valuation τ sig (Elt F) := StableHlo.after hostOps3 (U6 m c)
/-- the padding, -/
def U8 (c : Dev nD) : Valuation τ sig (Elt F) := StableHlo.after hostOps3_1 (U7 m c)
/-- the other operands of the last call, -/
def U9 (c : Dev nD) : Valuation τ sig (Elt F) := StableHlo.after hostOps3_2 (U8 m c)
/-- after that call, -/
def U10 (c : Dev nD) : Valuation τ sig (Elt F) := Pipeline.afterRegion (Stage4.dat (U9 m) c) (U9 m c)
/-- and after the final transpose. -/
def U11 (c : Dev nD) : Valuation τ sig (Elt F) := StableHlo.after hostOps4 (U10 m c)

/-! ## The calls' records -/

/-- Every call's proof data. -/
def pdats : (p : Fin 4) → (c : Dev nD) → Dat τ (Elt F) Unit ℕ (UR sig nD τ) ℕ (Pipeline.pin (pcfgs (F := F)) (adm m) p) c :=
  fun | ⟨0, _⟩ => fun c => Stage1.dat (U1 m) c
      | ⟨1, _⟩ => fun c => Route.dat (U2 m) c
      | ⟨2, _⟩ => fun c => Attn.dat (U5 m) (adm m 2) c
      | ⟨3, _⟩ => fun c => Stage4.dat (U9 m) c
      | ⟨_ + 4, h⟩ => absurd h (by omega)

/-- One level, on every counter of a TensorCore. -/
def L : GSem nD τ sig → Finset Unit := fun g => if g.1.2 = .tc then {()} else ∅
/-- It is zero. -/
def lv : GSem nD τ sig → Unit → ℕ := fun _ _ => 0

/-- Nothing is owed, so the levels cut nothing. -/
theorem cut (p : Fin 4) : Pipeline.LevelCut (nD := nD) (τ := τ) (pcfgs (F := F)) (adm m) () L lv p (fun _ => 0) (fun _ => 0) where
  hι c w s := by simp [L]
  hιb c w s := le_refl _
  hD c g i h := absurd h (lt_irrefl 0)

/-- The generator register, which every call's body may use. -/
def X (c : Dev nD) : sProp (MT nD τ sig Unit (Elt F) ℕ (UR sig nD τ) ℕ) := iprop(∃ r, prngReg c r)

/-- What rides beside the buffers between the calls: nothing owed, and the generator register. -/
def E (_ : Fin 5) (c : Dev nD) : sProp (MT nD τ sig Unit (Elt F) ℕ (UR sig nD τ) ℕ) :=
  iprop((∃ Wd, owes (c : Thread nD τ) (0 : CellTallies nD τ sig Unit) Wd) ∗ X c ∗ emp)

/-- The projections' call, -/
def R0 : RegionSeg (pcfgs (F := F)) (adm m) (pdats m) () defs₀ Variants.none L lv 0 :=
  RegionSeg.ofHeldIn (pcfgs (F := F)) (adm m) (pdats m) () defs₀ Variants.none L lv 0 (fun _ => 0) (Pipeline.ucRefs τ sig) X X launch0 rfl
    (fun c => (Stage1.body_obligation (U1 m) c).loose) (fun _ _ => rfl) (fun _ => rfl) (fun c w => by fin_cases w <;> rfl)
    (fun _ => .rfl) (fun _ => .rfl) (fun _ => 0) (cut m 0) (fun _ => iprop(emp)) (U1 m) (fun c w => Stage1.A_eq (U1 m) c w)
/-- the routing call, -/
def R1 : RegionSeg (pcfgs (F := F)) (adm m) (pdats m) () defs₀ Variants.none L lv 1 :=
  RegionSeg.ofHeldIn (pcfgs (F := F)) (adm m) (pdats m) () defs₀ Variants.none L lv 1 (fun _ => 0) (Pipeline.ucRefs τ sig) X X launch1 rfl
    (fun c => (Route.body_obligation (U2 m) c).loose) (fun _ _ => rfl) (fun _ => rfl) (fun c w => by fin_cases w <;> rfl)
    (fun _ => .rfl) (fun _ => .rfl) (fun _ => 0) (cut m 1) (fun _ => iprop(emp)) (U2 m) (fun c w => Route.A_eq (U2 m) c w)
/-- the last call. -/
def R3 : RegionSeg (pcfgs (F := F)) (adm m) (pdats m) () defs₀ Variants.none L lv 3 :=
  RegionSeg.ofHeldIn (pcfgs (F := F)) (adm m) (pdats m) () defs₀ Variants.none L lv 3 (fun _ => 0) (Pipeline.ucRefs τ sig) X X launch3 rfl
    (fun c => (Stage4.body_obligation (U9 m) c).loose) (fun _ _ => rfl) (fun _ => rfl) (fun c w => by fin_cases w <;> rfl)
    (fun _ => .rfl) (fun _ => .rfl) (fun _ => 0) (cut m 3) (fun _ => iprop(emp)) (U9 m) (fun c w => Stage4.A_eq (U9 m) c w)

/-! ## The attention call: nine windows on one array -/

section Shared

open Idealize.ShloMosaic.Pipeline

/-- Holding the buffers behind a call's arrays is the arrays' buffers, each once. -/
theorem held_arrRefs {gr W : Nat} (win : Fin W → WinSpec sig gr) (c : Dev nD) (V : Valuation τ sig (Elt F)) :
    (StableHlo.held (c : Thread nD τ) (arrRefs win) V : sProp (MT nD τ sig Unit (Elt F) ℕ (UR sig nD τ) ℕ))
      = arrBufs win c (fun b => V (Proc.devRef .tc b)) := by
  unfold StableHlo.held arrBufs arrRefs
  rw [bigSep_map]
  rfl

/-- The attention call. -/
def R2 : RegionSeg (pcfgs (F := F)) (adm m) (pdats m) () defs₀ Variants.none L lv 2 :=
  RegionSeg.ofArraysT (pcfgs (F := F)) (adm m) (pdats m) () defs₀ Variants.none L lv 2 (fun _ => 0) X X launch₀2
    (fun c => (Attn.body_obligation (U5 m) (adm m 2) c).loose) (fun _ _ => rfl) (fun _ => rfl)
    (fun _ => .rfl) (fun _ => .rfl) (fun _ => 0) (cut m 2)
    (fun c => StableHlo.held (c : Thread nD τ) ((ucRefs τ sig \ arrRefs spec2) \ tblRefs pre2) (U5 m c))

/-- The attention call's arrays are among the buffers the host holds. -/
theorem arr2_sub : arrRefs spec2 ⊆ ucRefs τ sig := arrRefs_sub_ucRefs spec2 (by decide)
/-- The attention call's table is among those buffers and is none of its arrays. -/
theorem tbl2_sub : tblRefs pre2 ⊆ ucRefs τ sig \ arrRefs spec2 := tblRefs_sub_ucRefs_sdiff spec2 pre2 (by decide) (by decide)
/-- The attention call's tables are distinct buffers. -/
theorem tbl2_inj : Function.Injective pre2.ref := by decide

/-- The table is what the buffer holds, on the one device. -/
theorem tab_eq (c : Dev nD) (k : Fin pre2.K) : (adm m 2).1 k = U5 m c (Proc.devRef .tc (pre2.ref k)) := by
  rw [Subsingleton.elim c d0]; rfl

/-- What the call leaves in its arrays is `U6` there, -/
theorem exit2 (c : Dev nD) (w : Fin 10) :
    (Attn.dat (U5 m) (adm m 2) c).arrAt w (cfg2 (adm m 2)).N = U6 m c (Proc.devRef .tc (arrRef spec2 w)) := by
  by_cases hw : w = 9
  · subst hw
    have h : U6 m c main_v7 = attnOut m c := by unfold U6; exact Function.update_self ..
    exact h.symm
  · have hin : ∀ w : Fin 10, w ≠ 9 → (spec2 w).isOut = false ∧ (Proc.devRef (τ := τ) .tc (arrRef spec2 w)) ≠ main_v7 := by decide
    have h : U6 m c (Proc.devRef .tc (arrRef spec2 w)) = U5 m c (Proc.devRef .tc (arrRef spec2 w)) := by
      unfold U6; exact Function.update_of_ne (hin w hw).2 _ _
    exact (((Attn.dat (U5 m) (adm m 2) c).arrAt_in w (hin w hw).1 _).trans (Attn.A_eq (U5 m) (adm m 2) c w)).trans h.symm

/-- and off them nothing changes. -/
theorem keep2 (c : Dev nD) (b : DevRef τ sig) (hb : b ∉ arrRefs (τ := τ) spec2) : U6 m c b = U5 m c b := by
  unfold U6
  refine Function.update_of_ne (fun e => hb ?_) _ _
  rw [e]; decide

/-- What the host holds before the attention call is what the call asks for. -/
theorem hpre2 (c : Dev nD) : iprop(StableHlo.held (c : Thread nD τ) (ucRefs τ sig) (U5 m c) ∗ E 2 c) ⊢ (R2 m).pre c := by
  show _ ⊢ iprop((Attn.dat (U5 m) (adm m 2) c).arrays ((Attn.dat (U5 m) (adm m 2) c).arrAt · 0) ∗ prefHeld pre2 c (fun _ => fullShare) (adm m 2).1 ∗ X c
    ∗ StableHlo.held (c : Thread nD τ) ((ucRefs τ sig \ arrRefs spec2) \ tblRefs pre2) (U5 m c) ∗ ∃ W, owes (c : Thread nD τ) (0 : CellTallies nD τ sig Unit) W)
  rw [StableHlo.held_sub_split (c : Thread nD τ) arr2_sub (U5 m c), StableHlo.held_sub_split (c : Thread nD τ) tbl2_sub (U5 m c),
    held_arrRefs, prefHeld_held pre2 tbl2_inj c _ (U5 m c) (tab_eq m c),
    (Attn.dat (U5 m) (adm m 2) c).arrBufs_eq_arrays sharedIn2 arr_whole2 (fun w _ => rfl) (fun b => U5 m c (Proc.devRef .tc b)) ((Attn.dat (U5 m) (adm m 2) c).arrAt · 0)
      (fun w => Attn.A_eq (U5 m) (adm m 2) c w)]
  unfold E
  iintro ⟨⟨Ha, Ht, Hu⟩, HO, HX, -⟩
  isplitl [Ha]; · iexact Ha
  isplitl [Ht]; · iexact Ht
  isplitl [HX]; · iexact HX
  isplitl [Hu]; · iexact Hu
  iexact HO

/-- What the attention call gives back is what the host holds after it. -/
theorem hpost2 (c : Dev nD) : (R2 m).post c ⊢ iprop(StableHlo.held (c : Thread nD τ) (ucRefs τ sig) (U6 m c) ∗ E 3 c) := by
  show iprop((Attn.dat (U5 m) (adm m 2) c).arrays ((Attn.dat (U5 m) (adm m 2) c).arrAt · (cfg2 (adm m 2)).N) ∗ prefHeld pre2 c (fun _ => fullShare) (adm m 2).1 ∗ X c
    ∗ StableHlo.held (c : Thread nD τ) ((ucRefs τ sig \ arrRefs spec2) \ tblRefs pre2) (U5 m c) ∗ ∃ W, owes (c : Thread nD τ) (0 : CellTallies nD τ sig Unit) W) ⊢ _
  rw [StableHlo.held_sub_split (c : Thread nD τ) arr2_sub (U6 m c), StableHlo.held_sub_split (c : Thread nD τ) tbl2_sub (U6 m c),
    held_arrRefs, prefHeld_held pre2 tbl2_inj c _ (U6 m c) (fun k => (tab_eq m c k).trans (keep2 m c _ (Finset.mem_sdiff.mp (tbl2_sub (Finset.mem_map.mpr ⟨_, Finset.mem_image.mpr ⟨k, Finset.mem_univ _, rfl⟩, rfl⟩))).2).symm),
    (Attn.dat (U5 m) (adm m 2) c).arrBufs_eq_arrays sharedIn2 arr_whole2 (fun w _ => rfl) (fun b => U6 m c (Proc.devRef .tc b)) ((Attn.dat (U5 m) (adm m 2) c).arrAt · (cfg2 (adm m 2)).N)
      (exit2 m c),
    StableHlo.held_congr (c : Thread nD τ) (S := (ucRefs τ sig \ arrRefs spec2) \ tblRefs pre2) (V := U6 m c) (V' := U5 m c)
      (fun b hb => keep2 m c b (Finset.mem_sdiff.mp (Finset.mem_sdiff.mp hb).1).2)]
  unfold E
  iintro ⟨Ha, Ht, HX, Hu, HO⟩
  isplitl [Ha Ht Hu]
  · isplitl [Ha]; · iexact Ha
    isplitl [Ht]; · iexact Ht
    iexact Hu
  isplitl [HO]; · iexact HO
  isplitl [HX]; · iexact HX
  iempintro

end Shared

/-! ## The run -/

/-- @main's items. -/
def segs : List (Seg (pcfgs (F := F)) (adm m) (pdats m) () defs₀ Variants.none L lv) :=
  [.host (HostSeg.ofOps _ _ _ _ _ (Pipeline.ucRefs τ sig) hostOps0 (fun op h => Pipeline.sub_ucRefs op ((List.forall_iff_forall_mem.mp hostOps0_sub) op h))
      (fun op h => (List.forall_iff_forall_mem.mp hostOps0_fresh) op h) (V0 m) (E 0)),
    .region (R0 m), .region (R1 m),
    .host (HostSeg.ofOps _ _ _ _ _ (Pipeline.ucRefs τ sig) hostOps2 (fun op h => Pipeline.sub_ucRefs op ((List.forall_iff_forall_mem.mp hostOps2_sub) op h))
      (fun op h => (List.forall_iff_forall_mem.mp hostOps2_fresh) op h) (U3 m) (E 2)),
    .host (HostSeg.ofOps _ _ _ _ _ (Pipeline.ucRefs τ sig) hostOps2_1 (fun op h => Pipeline.sub_ucRefs op ((List.forall_iff_forall_mem.mp hostOps2_1_sub) op h))
      (fun op h => (List.forall_iff_forall_mem.mp hostOps2_1_fresh) op h) (U4 m) (E 2)),
    .region (R2 m),
    .host (HostSeg.ofOps _ _ _ _ _ (Pipeline.ucRefs τ sig) hostOps3 (fun op h => Pipeline.sub_ucRefs op ((List.forall_iff_forall_mem.mp hostOps3_sub) op h))
      (fun op h => (List.forall_iff_forall_mem.mp hostOps3_fresh) op h) (U6 m) (E 3)),
    .host (HostSeg.ofOps _ _ _ _ _ (Pipeline.ucRefs τ sig) hostOps3_1 (fun op h => Pipeline.sub_ucRefs op ((List.forall_iff_forall_mem.mp hostOps3_1_sub) op h))
      (fun op h => (List.forall_iff_forall_mem.mp hostOps3_1_fresh) op h) (U7 m) (E 3)),
    .host (HostSeg.ofOps _ _ _ _ _ (Pipeline.ucRefs τ sig) hostOps3_2 (fun op h => Pipeline.sub_ucRefs op ((List.forall_iff_forall_mem.mp hostOps3_2_sub) op h))
      (fun op h => (List.forall_iff_forall_mem.mp hostOps3_2_fresh) op h) (U8 m) (E 3)),
    .region (R3 m),
    .host (HostSeg.ofOps _ _ _ _ _ (Pipeline.ucRefs τ sig) hostOps4 (fun op h => Pipeline.sub_ucRefs op ((List.forall_iff_forall_mem.mp hostOps4_sub) op h))
      (fun op h => (List.forall_iff_forall_mem.mp hostOps4_fresh) op h) (U10 m) (E 4))]

/-- The projection call's arrays are among the buffers the host holds. -/
theorem arr0_sub : Pipeline.arrRefs (pcfgs (F := F) 0).spec ⊆ Pipeline.ucRefs τ sig := Pipeline.arrRefs_sub_ucRefs _ launch0.win.arr_unscoped
/-- The routing call's arrays are among the buffers the host holds. -/
theorem arr1_sub : Pipeline.arrRefs (pcfgs (F := F) 1).spec ⊆ Pipeline.ucRefs τ sig := Pipeline.arrRefs_sub_ucRefs _ launch1.win.arr_unscoped
/-- The last call's arrays are among the buffers the host holds. -/
theorem arr3_sub : Pipeline.arrRefs (pcfgs (F := F) 3).spec ⊆ Pipeline.ucRefs τ sig := Pipeline.arrRefs_sub_ucRefs _ launch3.win.arr_unscoped

/-- What the host holds before the projection call is what the call asks for. -/
theorem hpre0 (c : Dev nD) : iprop(StableHlo.held (c : Thread nD τ) (Pipeline.ucRefs τ sig) (U1 m c) ∗ E 0 c) ⊢ (R0 m).pre c := by
  unfold R0 E
  exact RegionSeg.ofHeldIn_pre (pcs := pcfgs (F := F)) (a := adm m) (pdats := pdats m) (ι := ()) (defs₀ := defs₀) (𝒱₀ := Variants.none) (L := L) (lv := lv) (p := 0) (D := fun _ => 0) (S := Pipeline.ucRefs τ sig) (X := X) (Y := X) (R := fun _ => iprop(emp)) (W := U1 m) (arr0_sub (F := F)) c
/-- What the projection call gives back is what the host holds after it. -/
theorem hpost0 (c : Dev nD) : (R0 m).post c ⊢ iprop(StableHlo.held (c : Thread nD τ) (Pipeline.ucRefs τ sig) (U2 m c) ∗ E 1 c) := by
  unfold R0 E
  exact RegionSeg.ofHeldIn_post (pcs := pcfgs (F := F)) (a := adm m) (pdats := pdats m) (ι := ()) (defs₀ := defs₀) (𝒱₀ := Variants.none) (L := L) (lv := lv) (p := 0) (D := fun _ => 0) (S := Pipeline.ucRefs τ sig) (X := X) (Y := X) (R := fun _ => iprop(emp)) (W := U1 m) (arr0_sub (F := F)) c
/-- What the host holds before the routing call is what the call asks for. -/
theorem hpre1 (c : Dev nD) : iprop(StableHlo.held (c : Thread nD τ) (Pipeline.ucRefs τ sig) (U2 m c) ∗ E 1 c) ⊢ (R1 m).pre c := by
  unfold R1 E
  exact RegionSeg.ofHeldIn_pre (pcs := pcfgs (F := F)) (a := adm m) (pdats := pdats m) (ι := ()) (defs₀ := defs₀) (𝒱₀ := Variants.none) (L := L) (lv := lv) (p := 1) (D := fun _ => 0) (S := Pipeline.ucRefs τ sig) (X := X) (Y := X) (R := fun _ => iprop(emp)) (W := U2 m) (arr1_sub (F := F)) c
/-- What the routing call gives back is what the host holds after it. -/
theorem hpost1 (c : Dev nD) : (R1 m).post c ⊢ iprop(StableHlo.held (c : Thread nD τ) (Pipeline.ucRefs τ sig) (U3 m c) ∗ E 2 c) := by
  unfold R1 E
  exact RegionSeg.ofHeldIn_post (pcs := pcfgs (F := F)) (a := adm m) (pdats := pdats m) (ι := ()) (defs₀ := defs₀) (𝒱₀ := Variants.none) (L := L) (lv := lv) (p := 1) (D := fun _ => 0) (S := Pipeline.ucRefs τ sig) (X := X) (Y := X) (R := fun _ => iprop(emp)) (W := U2 m) (arr1_sub (F := F)) c
/-- What the host holds before the last call is what the call asks for. -/
theorem hpre3 (c : Dev nD) : iprop(StableHlo.held (c : Thread nD τ) (Pipeline.ucRefs τ sig) (U9 m c) ∗ E 3 c) ⊢ (R3 m).pre c := by
  unfold R3 E
  exact RegionSeg.ofHeldIn_pre (pcs := pcfgs (F := F)) (a := adm m) (pdats := pdats m) (ι := ()) (defs₀ := defs₀) (𝒱₀ := Variants.none) (L := L) (lv := lv) (p := 3) (D := fun _ => 0) (S := Pipeline.ucRefs τ sig) (X := X) (Y := X) (R := fun _ => iprop(emp)) (W := U9 m) (arr3_sub (F := F)) c
/-- What the last call gives back is what the host holds after it. -/
theorem hpost3 (c : Dev nD) : (R3 m).post c ⊢ iprop(StableHlo.held (c : Thread nD τ) (Pipeline.ucRefs τ sig) (U10 m c) ∗ E 4 c) := by
  unfold R3 E
  exact RegionSeg.ofHeldIn_post (pcs := pcfgs (F := F)) (a := adm m) (pdats := pdats m) (ι := ()) (defs₀ := defs₀) (𝒱₀ := Variants.none) (L := L) (lv := lv) (p := 3) (D := fun _ => 0) (S := Pipeline.ucRefs τ sig) (X := X) (Y := X) (R := fun _ => iprop(emp)) (W := U9 m) (arr3_sub (F := F)) c

/-- The rest ends owing nothing. -/
theorem hE4 (c : Dev nD) : E 4 c ⊢ (iprop(∃ W, owes (c : Thread nD τ) (0 : CellTallies nD τ sig Unit) W) : sProp (MT nD τ sig Unit (Elt F) ℕ (UR sig nD τ) ℕ)) := by
  unfold E
  iintro ⟨HO, -, -⟩
  iexact HO

variable (ρ : Dev nD → PrngReg)

set_option backward.isDefEq.respectTransparency.types false in
/-- Every weakly fair execution of the program from memory `m`, every counter at zero, terminates; every unscoped buffer then holds the last
    valuation and every counter is at zero. -/
theorem run_main : θ_run defs (onTc (τ := τ) (main (F := F))) ⟨m, fun _ => 0, ρ⟩ (fun r => (∀ (c : Dev nD) (b : Ref sig .tc),
      (Proc.devRef .tc b : DevRef τ sig) ∈ Pipeline.ucRefs τ sig → r.2.mem ((c : Thread nD τ).loc b) = U11 m c (Proc.devRef .tc b)) ∧ r.2.sem = fun _ => 0) := by
  refine Pipeline.θ_run_regions_kit_dev_sems (pcfgs (F := F)) (adm m) (pdats m) () (cellOf_inj (adm m)) emb₁ defs₀ Variants.none L lv m ρ main
    (fun _ => segs m)
    (fun c Q => by
      rewrite [main_chain c, Seg.run_eq_chain,
        show (segs m).map Seg.prog = [
          StableHlo.seq hostOps0,
          Prog.lift (.customCall (Pipeline.entry 0) ()),
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          StableHlo.seq hostOps3_2,
          Prog.lift (.customCall (Pipeline.entry 3) ()),
          StableHlo.seq hostOps4 ] from rfl]
      exact .rfl)
    (fun c => by simp only [segs, Seg.pipes_host, Seg.pipes_region, Seg.pipes_nil]; decide) (O₀ := fun _ => 0)
    (hL := fun g hg => by simp [L, hg]) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU _ : sProp (MT nD τ sig Unit (Elt F) ℕ (UR sig nD τ) ℕ)) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl); iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (U11 m c))
    (hch := fun c => ⟨.rfl, hpre0 m c, (hpost0 m c).trans (hpre1 m c), hpost1 m c, .rfl, hpre2 m c, hpost2 m c, .rfl, .rfl, hpre3 m c, hpost3 m c, sep_mono .rfl (hE4 c)⟩)
    (hinit := ?_)
    (QY := fun c s => ∀ b : Ref sig .tc, (Proc.devRef .tc b : DevRef τ sig) ∈ Pipeline.ucRefs τ sig → s.mem ((c : Thread nD τ).loc b) = U11 m c (Proc.devRef .tc b))
    (hfin := fun c s' => ?_) (hQ := fun _ h hz => ⟨h, funext fun g => hz g (.inr (regions_no_unscoped g.2))⟩)
  · refine (show _ ⊢ (bigSep Finset.univ fun c : Dev nD => iprop(StableHlo.held (c : Thread nD τ) (Pipeline.ucRefs τ sig) (V0 m c) ∗ E 0 c)
        : sProp (MT nD τ sig Unit (Elt F) ℕ (UR sig nD τ) ℕ)) from ?_).trans fupd_intro
    have hone : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
        ⊢ (iprop(StableHlo.held (c : Thread nD τ) (Pipeline.ucRefs τ sig) (V0 m c) ∗ E 0 c) : sProp (MT nD τ sig Unit (Elt F) ℕ (UR sig nD τ) ℕ)) := fun c => by
      rw [← Pipeline.unscopedBufs_held (Ix := Unit) (Name := ℕ) (U := UR sig nD τ) (Lvl := ℕ) c (V0 m c)]
      unfold E X
      iintro ⟨Hb, -, HO, -, Hp, -⟩
      isplitl [Hb]; · iexact Hb
      isplitl [HO]; · iexists _; iexact HO
      isplitl [Hp]; · iexists _; iexact Hp
      iempintro
    iintro ⟨H, -⟩
    ihave H' := (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ E 0 c) : sProp (MT nD τ sig Unit (Elt F) ℕ (UR sig nD τ) ℕ))
        from bigSep_mono fun c _ => hone c) $$ H
    iexact H'
  · unfold StableHlo.held
    iintro ⟨Hh, HSI⟩
    ihave Hr := (pointsTo_read_all (Pipeline.ucRefs τ sig) (fun b => ((c : Thread nD τ).1, b)) (U11 m c) s') $$ [Hh HSI]
    · isplitl [Hh] <;> iassumption
    icases Hr with ⟨%h, HSI⟩
    imodintro
    isplitr
    · ipureintro
      exact fun b hb => h _ hb
    · iexact HSI

end Cert.KernelIdeal.Run

end

end
-- ==== Proof.Ideal.Frames.lean ====
/- The run's arguments: no item of the program writes them, so they end as launched. -/
module

public import proofs.«01_k».proof.Proof.Ideal.Run

@[expose] public section

noncomputable section

namespace Cert.KernelIdeal.Run

open Idealize.ShloMosaic Idealize.ShloMosaic.TcCoe
open Idealize.SL.Sem
open Cert.KernelIdeal.Gen

variable {F : FTy → Type} [FloatOps F] [Named F]
variable (m : (ℓ : Loc nD τ sig) → Buf (Elt F) ℓ)

/-! ## What each item leaves alone -/

/-- The host's preparation writes its four operands only. -/
theorem U1_of (c : Dev nD) (r : Ref sig .tc) (h : r ∉ hostOps0_W) : U1 m c r = m ((c : Thread nD τ).loc r) :=
  StableHlo.after_of_writes_sub hostOps0 _ hostOps0_writes h
/-- The projections' call writes its four output arrays only. -/
theorem U2_of (c : Dev nD) (r : Ref sig .tc) (h : ∀ w, Pipeline.arrRef spec0 w = r → (spec0 w).isOut = false) : U2 m c r = U1 m c r :=
  Pipeline.afterRegion_keeps (Stage1.dat (U1 m) c) (U1 m c) winFacts0.arr_inj (Stage1.A_eq (U1 m) c) r h
/-- The routing call writes its table only. -/
theorem U3_of (c : Dev nD) (r : Ref sig .tc) (h : ∀ w, Pipeline.arrRef spec1 w = r → (spec1 w).isOut = false) : U3 m c r = U2 m c r :=
  Pipeline.afterRegion_keeps (Route.dat (U2 m) c) (U2 m c) winFacts1.arr_inj (Route.A_eq (U2 m) c) r h
/-- The clip writes its own values only. -/
theorem U5_of (c : Dev nD) (r : Ref sig .tc) (h : r ∉ hostOps2_W ∧ r ∉ hostOps2_1_W) : U5 m c r = U3 m c r :=
  (StableHlo.after_of_writes_sub hostOps2_1 _ hostOps2_1_writes h.2).trans (StableHlo.after_of_writes_sub hostOps2 _ hostOps2_writes h.1)
/-- The attention call writes its output only. -/
theorem U6_of (c : Dev nD) (r : Ref sig .tc) (h : r ≠ main_v7) : U6 m c r = U5 m c r := by
  unfold U6; exact Function.update_of_ne (StableHlo.devRef_ne_of_ne h) _ _
/-- The padding and the last call's operands are written alone. -/
theorem U9_of (c : Dev nD) (r : Ref sig .tc) (h : r ∉ hostOps3_W ∧ r ∉ hostOps3_1_W ∧ r ∉ hostOps3_2_W) : U9 m c r = U6 m c r :=
  (StableHlo.after_of_writes_sub hostOps3_2 _ hostOps3_2_writes h.2.2).trans
    ((StableHlo.after_of_writes_sub hostOps3_1 _ hostOps3_1_writes h.2.1).trans (StableHlo.after_of_writes_sub hostOps3 _ hostOps3_writes h.1))
/-- The last call writes its output only. -/
theorem U10_of (c : Dev nD) (r : Ref sig .tc) (h : ∀ w, Pipeline.arrRef spec3 w = r → (spec3 w).isOut = false) : U10 m c r = U9 m c r :=
  Pipeline.afterRegion_keeps (Stage4.dat (U9 m) c) (U9 m c) winFacts3.arr_inj (Stage4.A_eq (U9 m) c) r h
/-- The final transpose writes the result only. -/
theorem U11_of (c : Dev nD) (r : Ref sig .tc) (h : r ∉ hostOps4_W) : U11 m c r = U10 m c r :=
  StableHlo.after_of_writes_sub hostOps4 _ hostOps4_writes h

/-- The seven arguments. -/
abbrev args : List (Ref sig .tc) := [main_arg0, main_arg1, main_arg2, main_arg3, main_arg4, main_arg5, main_arg6]

/-- An argument is no item's output, -/
theorem arg_off : ∀ r ∈ args, r ∉ hostOps0_W ∧ (∀ w, Pipeline.arrRef spec0 w = r → (spec0 w).isOut = false)
    ∧ (∀ w, Pipeline.arrRef spec1 w = r → (spec1 w).isOut = false) ∧ (r ∉ hostOps2_W ∧ r ∉ hostOps2_1_W) ∧ r ≠ main_v7
    ∧ (r ∉ hostOps3_W ∧ r ∉ hostOps3_1_W ∧ r ∉ hostOps3_2_W) ∧ (∀ w, Pipeline.arrRef spec3 w = r → (spec3 w).isOut = false) ∧ r ∉ hostOps4_W
    ∧ (Proc.devRef .tc r : DevRef τ sig) ∈ Pipeline.ucRefs τ sig := by
  intro r hr
  refine ⟨?_, ?_, ?_, ?_, ?_, ?_, ?_, ?_, Finset.mem_filter.mpr ⟨StableHlo.devRef_mem_tcRefs r, ?_⟩⟩ <;> revert r <;> decide

/-- so it holds its launch contents before the last call, -/
theorem U9_arg (c : Dev nD) (r : Ref sig .tc) (h : r ∈ args) : U9 m c r = m ((c : Thread nD τ).loc r) := by
  obtain ⟨h0, h1, h2, h3, h4, h5, -⟩ := arg_off r h
  rw [U9_of m c r h5, U6_of m c r h4, U5_of m c r h3, U3_of m c r h2, U2_of m c r h1, U1_of m c r h0]

/-- and at the end. -/
theorem U11_arg (c : Dev nD) (r : Ref sig .tc) (h : r ∈ args) : U11 m c r = m ((c : Thread nD τ).loc r) := by
  obtain ⟨-, -, -, -, -, -, h6, h7, -⟩ := arg_off r h
  rw [U11_of m c r h7, U10_of m c r h6, U9_arg m c r h]

variable (ρ : Dev nD → PrngReg)

/-- The run, read at the result and the arguments. -/
theorem run_result : θ_run defs (onTc (τ := τ) (main (F := F))) ⟨m, fun _ => 0, ρ⟩ (fun r => (∀ c : Dev nD,
      r.2.mem ((c.tc : Thread nD τ).loc main_v15) = U11 m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    have ha : ∀ b ∈ args, r.2.mem ((c.tc : Thread nD τ).loc b) = m ((c.tc : Thread nD τ).loc b) := fun b hb =>
      (h.1 c b (arg_off b hb).2.2.2.2.2.2.2.2).trans (U11_arg m c b hb)
    ⟨h.1 c main_v15 (Finset.mem_filter.mpr ⟨StableHlo.devRef_mem_tcRefs main_v15, by decide⟩), ha main_arg0 (by decide), ha main_arg1 (by decide),
      ha main_arg2 (by decide), ha main_arg3 (by decide), ha main_arg4 (by decide), ha main_arg5 (by decide), ha main_arg6 (by decide)⟩, h.2⟩) (run_main m ρ)

end Cert.KernelIdeal.Run

end

end
-- ==== Proof.Ideal.Softmax.lean ====
module

public import Idealize.ShloMosaic.Lib.Pipeline.ValueKit
public import Idealize.ShloMosaic.Lib.Pointwise
public import Idealize.ShloMosaic.Lib.IdealHost

/-! Softmax over real scores: with each score less the row's largest and each weight normalised first, and with neither. -/

@[expose] public section
noncomputable section
namespace Cert.Softmax
open Idealize.ShloMosaic

/-- A finite sum of reals, as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A number that is neither infinity. -/
def IsReal (x : EReal) : Prop := ∃ r : ℝ, x = r

/-- A sum of two real numbers is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩
/-- A product of two real numbers is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩
/-- A finite sum of real numbers is real. -/
theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩
/-- A real number over a nonzero real is real. -/
theorem IsReal.div {x : EReal} (hx : IsReal x) {y : ℝ} (hy : y ≠ 0) : IsReal (Ideal.div x y) := by
  rw [Ideal.div_coe hy]; exact hx.mul ⟨_, rfl⟩
/-- A real number lies above minus infinity. -/
theorem IsReal.bot_lt {x : EReal} (hx : IsReal x) : ⊥ < x := by
  obtain ⟨a, rfl⟩ := hx; exact EReal.bot_lt_coe a
/-- A number whose magnitude is below infinity is real. -/
theorem isReal_of_abs {x : EReal} (h : max x (-x) < ⊤) : IsReal x := by
  induction x using EReal.rec with
  | bot => exact absurd h (by simp)
  | coe r => exact ⟨r, rfl⟩
  | top => exact absurd h (by simp)

/-- The largest of a row of reals is real. -/
theorem isReal_max (f : Fin 256 → EReal) (h : ∀ i, IsReal (f i)) (z : EReal) (hz : z = ⊥) : IsReal (max z (Finset.fold max z f Finset.univ)) := by
  subst hz
  obtain ⟨i, _, hi⟩ := Finset.exists_mem_eq_sup (Finset.univ : Finset (Fin 256)) ⟨0, Finset.mem_univ _⟩ f
  have e : Finset.fold max (⊥ : EReal) f Finset.univ = f i := hi
  rw [e, max_eq_right bot_le]
  exact h i

/-- A quotient of reals, as extended reals. -/
theorem div_real {y : ℝ} (hy : y ≠ 0) (x : ℝ) : Ideal.div (x : EReal) (y : EReal) = ((x / y : ℝ) : EReal) := by
  rw [Ideal.div_coe hy, ← EReal.coe_mul]; exact congrArg _ (by ring)

/-- Softmax-weighted values: subtracting one real from every score and normalising each weight gives the quotient of the two plain sums. -/
theorem softmax (L V : Fin 256 → EReal) (M : EReal) (hL : ∀ j, IsReal (L j)) (hV : ∀ j, IsReal (V j)) (hM : IsReal M) :
    (∑ j, Ideal.div (Ideal.exp (L j - M)) (∑ i, Ideal.exp (L i - M)) * V j)
      = Ideal.div (∑ j, V j * Ideal.exp (L j)) (∑ j, Ideal.exp (L j)) := by
  choose l hl using hL
  choose v hv using hV
  obtain ⟨m, rfl⟩ := hM
  obtain rfl : L = fun j => (l j : EReal) := funext hl
  obtain rfl : V = fun j => (v j : EReal) := funext hv
  have h1 : (∑ i, Real.exp (l i - m)) ≠ 0 := (Finset.sum_pos (fun i _ => Real.exp_pos _) ⟨0, Finset.mem_univ _⟩).ne'
  have h2 : (∑ i, Real.exp (l i)) ≠ 0 := (Finset.sum_pos (fun i _ => Real.exp_pos _) ⟨0, Finset.mem_univ _⟩).ne'
  have e1 : (∑ i, Ideal.exp ((l i : EReal) - (m : EReal))) = ((∑ i, Real.exp (l i - m) : ℝ) : EReal) := (coe_sum Finset.univ fun i => Real.exp (l i - m)).symm
  have e2 : (∑ i, Ideal.exp (l i : EReal)) = ((∑ i, Real.exp (l i) : ℝ) : EReal) := (coe_sum Finset.univ fun i => Real.exp (l i)).symm
  have e3 : (∑ i, (v i : EReal) * Ideal.exp (l i : EReal)) = ((∑ i, v i * Real.exp (l i) : ℝ) : EReal) :=
    (Finset.sum_congr rfl fun i _ => (EReal.coe_mul (v i) (Real.exp (l i))).symm).trans (coe_sum Finset.univ fun i => v i * Real.exp (l i)).symm
  have e4 : ∀ j, Ideal.div (Ideal.exp ((l j : EReal) - (m : EReal))) ((∑ i, Real.exp (l i - m) : ℝ) : EReal) * (v j : EReal)
      = ((Real.exp (l j - m) / (∑ i, Real.exp (l i - m)) * v j : ℝ) : EReal) := fun j => by
    rw [EReal.coe_mul, ← div_real h1]; rfl
  rw [e1, e2, e3, div_real h2, Finset.sum_congr rfl fun j _ => e4 j, ← coe_sum]
  refine congrArg _ ?_
  have h3 : (∑ i, Real.exp (l i - m)) = (∑ i, Real.exp (l i)) * Real.exp (-m) := by
    rw [Finset.sum_mul]; exact Finset.sum_congr rfl fun i _ => by rw [← Real.exp_add, sub_eq_add_neg]
  have h4 : Real.exp (-m) ≠ 0 := Real.exp_ne_zero _
  rw [h3, Finset.sum_div]
  refine Finset.sum_congr rfl fun j _ => ?_
  rw [sub_eq_add_neg, Real.exp_add]
  field_simp

/-- Dividing every query by a real before the products is multiplying their sum by its reciprocal. -/
theorem scaled {n : ℕ} (q k : Fin n → EReal) (y : ℝ) (hy : y ≠ 0) (hq : ∀ d, IsReal (q d)) (hk : ∀ d, IsReal (k d)) :
    (∑ d, Ideal.div (q d) y * k d) = (∑ d, q d * k d) * ((y⁻¹ : ℝ) : EReal) := by
  choose a ha using hq
  choose b hb using hk
  obtain rfl : q = fun j => (a j : EReal) := funext ha
  obtain rfl : k = fun j => (b j : EReal) := funext hb
  have e1 : ∀ d, Ideal.div (a d : EReal) (y : EReal) * (b d : EReal) = ((a d / y * b d : ℝ) : EReal) := fun d => by
    rw [EReal.coe_mul, ← div_real hy]
  have e2 : (∑ d, (a d : EReal) * (b d : EReal)) = ((∑ d, a d * b d : ℝ) : EReal) :=
    (Finset.sum_congr rfl fun d _ => (EReal.coe_mul (a d) (b d)).symm).trans (coe_sum Finset.univ fun d => a d * b d).symm
  rw [Finset.sum_congr rfl fun d _ => e1 d, e2, ← coe_sum, ← EReal.coe_mul]
  refine congrArg _ ?_
  rw [Finset.sum_mul]
  exact Finset.sum_congr rfl fun j _ => by rw [div_eq_mul_inv]; ring

end Cert.Softmax
-- ==== Proof.Ideal.Pre.lean ====
module

public import proofs.«01_k».proof.Proof.Gen.Pre_drawn_inputs
public import proofs.«01_k».proof.Defs
public import proofs.«01_k».proof.Proof.Ideal.Softmax
public import Idealize.ShloMosaic.Lib.ReduceAll
public import Idealize.ShloMosaic.Lib.Affine

/-! What the precondition says of the arguments: three are real everywhere, the filter's bias is zero. -/

@[expose] public section
noncomputable section
namespace Cert.PreRead
open Idealize.ShloMosaic Idealize.ShloMosaic.TcCoe
open Cert.Softmax Cert.Pre_drawn_inputs

instance : Subsingleton S_.Idx := ⟨fun _ _ => funext fun i => i.elim0⟩

/-- The word of infinity reads as the top number. -/
theorem inf_bits : Ideal.ofBits .f32 0x7F800000#32 = (⊤ : EReal) := by simp [Ideal.ofBits, Ideal.ieee]
/-- The word of zero reads as zero. -/
theorem zero_bits : Ideal.ofBits .f32 0x00000000#32 = (0 : EReal) := by simp [Ideal.ofBits, Ideal.ieee]

/-- A comparison whose bit is one holds. -/
theorem ofBool_one {p : Prop} [Decidable p] (h : BitVec.ofBool (decide p) = 1#1) : p := by
  by_contra hp
  simp [hp] at h

/-- An array whose every magnitude compares below infinity is real everywhere. -/
theorem all_real {s : Shape} {axes : List (Fin s.rank)} (x : Vec Ideal s .f32) (hb : S_.BroadcastsInDim s ![]) (hr : s.ReducesTo axes S_) (hu : 0 < S_.numel) (j : S_.Idx)
    (e : Host.reduce IntOp.andi (cmpf .olt (Host.absf (F := Ideal) (φ := .f32) x) (broadcastInDim s ![] hb (constant (F := Ideal) S_ .f32 0x7F800000#32))) (constantI S_ 1 1#1) hr hu j = 1#1) (i : s.Idx) : IsReal (x i) := by
  have h := Host.reduce_andi_all _ _ hr hu j e i
  have h2 : BitVec.ofBool (decide (max (x i : EReal) (-(x i : EReal)) < Ideal.ofBits .f32 0x7F800000#32)) = 1#1 := h
  have h3 := ofBool_one h2
  rw [inf_bits] at h3
  exact isReal_of_abs h3

/-- An array that compares equal to zero everywhere is zero everywhere. -/
theorem all_zero {s : Shape} {axes : List (Fin s.rank)} (x : Vec Ideal s .f32) (hb : S_.BroadcastsInDim s ![]) (hr : s.ReducesTo axes S_) (hu : 0 < S_.numel) (j : S_.Idx)
    (e : Host.reduce IntOp.andi (cmpf (F := Ideal) (φ := .f32) .oeq x (broadcastInDim s ![] hb (constant (F := Ideal) S_ .f32 0x00000000#32))) (constantI S_ 1 1#1) hr hu j = 1#1) (i : s.Idx) : (x i : EReal) = 0 := by
  have h := Host.reduce_andi_all _ _ hr hu j e i
  have h2 : BitVec.ofBool (decide ((x i : EReal) = Ideal.ofBits .f32 0x00000000#32)) = 1#1 := h
  exact (ofBool_one h2).trans zero_bits

/-- The four facts. -/
theorem facts_of [Facts] (a0 : Vec Ideal S4x384x56x56 .f32) (a1 : Vec Ideal S1152x384x1x1 .f32) (a2 : Vec Ideal S1152 .f32) (a3 : Vec Ideal S384x1x5x5 .f32) (a4 : Vec Ideal S384 .f32) (a5 : Vec Ideal S384x384x1x1 .f32) (a6 : Vec Ideal S384 .f32)
    (h : fn (F := Ideal) a0 a1 a2 a3 a4 a5 a6 = fun _ => 1#1) :
    (∀ i, IsReal (a0 i)) ∧ (∀ i, IsReal (a1 i)) ∧ (∀ i, IsReal (a2 i)) ∧ ∀ i, (a4 i : EReal) = 0 := by
  have hj : fn (F := Ideal) a0 a1 a2 a3 a4 a5 a6 (fun i => i.elim0) = 1#1 := congrFun h _
  obtain ⟨h012, h4⟩ := IntOp.andi_eq_one.1 hj
  obtain ⟨h01, h2⟩ := IntOp.andi_eq_one.1 h012
  obtain ⟨h0, h1⟩ := IntOp.andi_eq_one.1 h01
  exact ⟨all_real a0 _ _ _ _ h0, all_real a1 _ _ _ _ h1, all_real a2 _ _ _ _ h2, all_zero a4 _ _ _ _ h4⟩

end Cert.PreRead
-- ==== Proof.Ideal.Sums.lean ====
module

public import Idealize.ShloMosaic.Lib.Pipeline.ValueKit
public import Idealize.ShloMosaic.Lib.Pointwise
public import Idealize.ShloMosaic.Lib.IdealHost

/-! Two window sums that a mean over a window prints as: over the first and third of four axes, and over the fourth and sixth of six. -/

@[expose] public section
set_option maxRecDepth 16384
noncomputable section
namespace Cert.Sums
open Idealize.ShloMosaic

/-- A sum over axes 0 and 2 of a rank-4 array, at an index. -/
theorem sum02 (h : (⟨4, ![8, 7, 8, 1152]⟩ : Shape).Reduces [0, 2] ⟨2, ![7, 1152]⟩) (v : (⟨4, ![8, 7, 8, 1152]⟩ : Shape).Idx → EReal)
    (j : Fin 7) (o : Fin 1152) : Ideal.reduceAdd h v (ix2 j o) = ∑ a : Fin 8, ∑ e : Fin 8, v (ix4 a j e o) := by
  refine (Finset.sum_filter_eq_sum_of_fiber _ (fun k : Fin 8 × Fin 8 => ix4 k.1 j k.2 o)
    (fun _ _ e => Prod.ext (congrFun e 0) (congrFun e 2)) (fun i => ⟨fun e => ⟨(i 0, i 2), ?_⟩, ?_⟩) v).trans ?_
  · funext a
    match a with
    | ⟨0, _⟩ => rfl
    | ⟨1, _⟩ => exact (congrFun e 0).symm
    | ⟨2, _⟩ => rfl
    | ⟨3, _⟩ => exact (congrFun e 1).symm
  · rintro ⟨k, rfl⟩
    funext b
    match b with
    | ⟨0, _⟩ => rfl
    | ⟨1, _⟩ => rfl
  · simp only [Fintype.sum_prod_type]

/-- A sum over axes 3 and 5 of a rank-6 array, at an index. -/
theorem sum35 (h : (⟨6, ![4, 384, 7, 8, 7, 8]⟩ : Shape).ReducesTo [3, 5] ⟨4, ![4, 384, 7, 7]⟩) (v : (⟨6, ![4, 384, 7, 8, 7, 8]⟩ : Shape).Idx → EReal)
    (init : EReal) (b : Fin 4) (o : Fin 384) (i j : Fin 7) :
    Ideal.hostReduceAdd h v init (ix4 b o i j) = init + ∑ a : Fin 8, ∑ e : Fin 8, v (ix6 b o i a j e) := by
  refine congrArg (init + ·) ((Finset.sum_filter_eq_sum_of_fiber _ (fun k : Fin 8 × Fin 8 => ix6 b o i k.1 j k.2)
    (fun _ _ e => Prod.ext (congrFun e 3) (congrFun e 5)) (fun i => ⟨fun e => ⟨(i 3, i 5), ?_⟩, ?_⟩) v).trans ?_)
  · funext a
    match a with
    | ⟨0, _⟩ => exact (congrFun e 0).symm
    | ⟨1, _⟩ => exact (congrFun e 1).symm
    | ⟨2, _⟩ => exact (congrFun e 2).symm
    | ⟨3, _⟩ => rfl
    | ⟨4, _⟩ => exact (congrFun e 3).symm
    | ⟨5, _⟩ => rfl
  · rintro ⟨k, rfl⟩
    funext b
    match b with
    | ⟨0, _⟩ => rfl
    | ⟨1, _⟩ => rfl
    | ⟨2, _⟩ => rfl
    | ⟨3, _⟩ => rfl
  · simp only [Fintype.sum_prod_type]
end Cert.Sums
-- ==== Proof.Ideal.TopK.lean ====
module

public import Idealize.ShloMosaic.Lib.Pipeline.ValueKit
public import Idealize.ShloMosaic.Lib.Pointwise
public import Idealize.ShloMosaic.Lib.IdealHost
public import Idealize.ShloMosaic.Lib.PlanTiles.StableSort

/-! The four largest entries of a row, twice: by four rounds of taking the largest and striking it out, and by a stable sort. -/

@[expose] public section
set_option maxRecDepth 16384
noncomputable section
namespace Cert.TopK
open Idealize.ShloMosaic

/-- The first position of a row's largest entry. -/
def IsTop (a : Fin 49 → EReal) (i : Fin 49) : Prop := (∀ j, a j ≤ a i) ∧ ∀ j < i, a j < a i

/-- One round's choice: the smallest position whose entry is at least the row's maximum. -/
def pick (a : Fin 49 → EReal) : BitVec 32 :=
  Finset.fold IntOp.minsi 2147483647#32
    (fun x => if Finset.fold max (Ideal.ofBits .f32 0xFF800000#32) a Finset.univ ≤ a x then BitVec.ofNat 32 x.val else 49#32) Finset.univ

/-- A row with the position that a word names struck out. -/
def strike (a : Fin 49 → EReal) (w : BitVec 32) : Fin 49 → EReal := fun j =>
  Scalar.select (IntOp.cmpi .eq (BitVec.ofNat 32 j.val) w) (Ideal.ofBits .f32 0xFF800000#32) (a j)

/-- The row before round `n`. -/
def rowAt (a : Fin 49 → EReal) : ℕ → Fin 49 → EReal
  | 0 => a
  | n + 1 => strike (rowAt a n) (pick (rowAt a n))

/-- The word of minus infinity reads as the bottom number. -/
theorem ninf : Ideal.ofBits .f32 0xFF800000#32 = (⊥ : EReal) := by
  simp [Ideal.ofBits, Ideal.ieee]

/-- Different column numbers have different words. -/
theorem ofNat_inj (i j : Fin 49) : BitVec.ofNat 32 i.val = BitVec.ofNat 32 j.val ↔ i = j := by
  constructor
  · intro h
    have := congrArg BitVec.toNat h
    simp only [BitVec.toNat_ofNat] at this
    apply Fin.ext; omega
  · rintro rfl; rfl

/-- Striking out position `i` puts `⊥` there and leaves the rest. -/
theorem strike_ofNat (a : Fin 49 → EReal) (i j : Fin 49) : strike a (BitVec.ofNat 32 i.val) j = if j = i then ⊥ else a j := by
  unfold strike
  rw [ninf]
  by_cases h : j = i
  · subst h; rw [if_pos rfl]; simp [Scalar.select, IntOp.cmpi]
  · have h' : ¬ BitVec.ofNat 32 j.val = BitVec.ofNat 32 i.val := fun e => h ((ofNat_inj j i).mp e)
    rw [if_neg h]; simp only [Scalar.select, IntOp.cmpi, beq_eq_false_iff_ne.mpr h']; rfl

/-- The signed minimum of two words reads as the minimum of the numbers. -/
theorem minsi_toInt (x y : BitVec 32) : (IntOp.minsi x y).toInt = min x.toInt y.toInt := by
  unfold IntOp.minsi
  by_cases h : x.slt y
  · rw [if_pos h]
    rw [BitVec.slt_iff_toInt_lt] at h
    omega
  · rw [if_neg h]
    rw [BitVec.slt_iff_toInt_lt] at h
    omega

/-- One round finds the first position of the largest entry. -/
theorem pick_of_top (a : Fin 49 → EReal) (i : Fin 49) (h : IsTop a i) : pick a = BitVec.ofNat 32 i.val := by
  have hmax : Finset.fold max (Ideal.ofBits .f32 0xFF800000#32) a Finset.univ = a i := by
    rw [ninf]
    refine le_antisymm ?_ ?_
    · exact (Finset.fold_max_le (a i)).mpr ⟨bot_le, fun j _ => h.1 j⟩
    · exact (Finset.le_fold_max (a i)).mpr (Or.inr ⟨i, Finset.mem_univ _, le_rfl⟩)
  have hi : ∀ j : Fin 49, (BitVec.ofNat 32 j.val).toInt = j.val := by decide +kernel
  unfold pick
  rw [hmax]
  apply BitVec.eq_of_toInt_eq
  rw [← Finset.fold_hom (op' := min) (m := BitVec.toInt) minsi_toInt]
  refine le_antisymm ?_ ?_
  · refine (Finset.fold_min_le _).mpr (Or.inr ⟨i, Finset.mem_univ _, ?_⟩)
    rw [if_pos le_rfl]
  · refine (Finset.le_fold_min _).mpr ⟨?_, fun j _ => ?_⟩
    · rw [hi]; have := i.isLt
      show (i.val : ℤ) ≤ 2147483647
      omega
    · by_cases hj : a i ≤ a j
      · rw [if_pos hj, hi, hi]
        by_contra hlt
        exact absurd (h.2 j (by apply Fin.lt_def.mpr; omega)) (not_lt.mpr hj)
      · rw [if_neg hj, hi]; have := i.isLt
        show (i.val : ℤ) ≤ 49
        omega

/-- The positions of a row in the order of a stable sort, largest first. -/
def order (a : Fin 49 → EReal) : Fin 49 → Fin 49 := sortedFrom fun k k' => decide (a k' < a k)

/-- The number of smaller entries orders positions as the entries do. -/
theorem card_lt {n : ℕ} (a : Fin n → EReal) (x y : Fin n) :
    ((Finset.univ.filter (fun j => a j < a y)).card < (Finset.univ.filter (fun j => a j < a x)).card) ↔ a y < a x := by
  constructor
  · intro h
    by_contra hn
    refine absurd (Finset.card_le_card ?_) (not_le.mpr h)
    intro j hj
    simp only [Finset.mem_filter, Finset.mem_univ, true_and] at hj ⊢
    exact lt_of_lt_of_le hj (not_lt.mp hn)
  · intro h
    refine Finset.card_lt_card (Finset.ssubset_iff_subset_ne.mpr ⟨?_, ?_⟩)
    · intro j hj
      simp only [Finset.mem_filter, Finset.mem_univ, true_and] at hj ⊢
      exact hj.trans h
    · intro e
      have : y ∈ Finset.univ.filter (fun j => a j < a y) := by rw [e]; simp [h]
      simp at this

/-- A stable sort's order, over any length: larger entries first, equal entries by position. -/
theorem sorted_lex {n : ℕ} (a : Fin n → EReal) (s t : Fin n) (h : s < t) :
    PlanTiles.Lex (fun x : Fin n => (Finset.univ.filter (fun j => a j < a x)).card) (· < ·)
      (sortedFrom (fun k k' => decide (a k' < a k)) s) (sortedFrom (fun k k' => decide (a k' < a k)) t) := by
  have hp := PlanTiles.pairwise_stableSort_lex (fun x : Fin n => (Finset.univ.filter (fun j => a j < a x)).card) (· < ·) (List.finRange n)
    (List.pairwise_lt_finRange n)
  have e : (fun x y : Fin n => decide ((Finset.univ.filter (fun j => a j < a y)).card < (Finset.univ.filter (fun j => a j < a x)).card))
      = (fun k k' : Fin n => decide (a k' < a k)) := by
    funext x y
    exact decide_eq_decide.mpr (card_lt a x y)
  rw [e] at hp
  exact List.pairwise_iff_get.mp hp (s.cast (length_sortPositions n (fun k k' => decide (a k' < a k))).symm)
    (t.cast (length_sortPositions n (fun k k' => decide (a k' < a k))).symm) h

/-- The sorted order: larger entries first, equal entries by position. -/
theorem order_lex (a : Fin 49 → EReal) (s t : Fin 49) (h : s < t) :
    a (order a t) < a (order a s) ∨ (a (order a s) = a (order a t) ∧ order a s < order a t) := by
  have hl := sorted_lex a s t h
  unfold order
  generalize sortedFrom (fun k k' => decide (a k' < a k)) s = x at hl ⊢
  generalize sortedFrom (fun k k' => decide (a k' < a k)) t = y at hl ⊢
  rcases hl with hl | ⟨hl, hlt⟩
  · exact Or.inl ((card_lt a _ _).mp hl)
  · refine Or.inr ⟨?_, hlt⟩
    rcases lt_trichotomy (a x) (a y) with q | q | q
    · exact absurd ((card_lt a _ _).mpr q) (not_lt.mpr hl.ge)
    · exact q
    · exact absurd ((card_lt a _ _).mpr q) (not_lt.mpr hl.le)

/-- With no entry `⊥`, a row with the first `n` of the sorted order struck out has position `n` of it as its choice. -/
theorem pick_struck (a : Fin 49 → EReal) (ha : ∀ j, ⊥ < a j) (n : ℕ) (hn : n < 49) (r : Fin 49 → EReal)
    (hr : ∀ j, r j = if ∃ s : Fin 49, s.val < n ∧ order a s = j then ⊥ else a j) : pick r = BitVec.ofNat 32 (order a ⟨n, hn⟩).val := by
  have hself : r (order a ⟨n, hn⟩) = a (order a ⟨n, hn⟩) := by
    rw [hr, if_neg]
    rintro ⟨s, hs, e⟩
    have := sortedFrom_injective _ e
    rw [this] at hs
    exact absurd hs (lt_irrefl n)
  have key : ∀ j, j ≠ order a ⟨n, hn⟩ → r j < a (order a ⟨n, hn⟩) ∨ (r j = a (order a ⟨n, hn⟩) ∧ order a ⟨n, hn⟩ < j) := by
    intro j hj
    rw [hr]
    split
    · exact Or.inl (ha _)
    · next hno =>
      obtain ⟨s, rfl⟩ := sortedFrom_surjective (fun k k' => decide (a k' < a k)) j
      have hs : (⟨n, hn⟩ : Fin 49) < s := by
        rcases lt_trichotomy s ⟨n, hn⟩ with q | q | q
        · exact absurd ⟨s, q, rfl⟩ hno
        · exact absurd (congrArg (order a) q) hj
        · exact q
      rcases order_lex a ⟨n, hn⟩ s hs with q | ⟨q, q'⟩
      · exact Or.inl q
      · exact Or.inr ⟨q.symm, q'⟩
  refine pick_of_top _ _ ⟨fun j => ?_, fun j hj => ?_⟩
  · rw [hself]
    by_cases e : j = order a ⟨n, hn⟩
    · rw [e, hself]
    · rcases key j e with q | ⟨q, -⟩
      · exact q.le
      · exact q.le
  · rw [hself]
    rcases key j (ne_of_lt hj) with q | ⟨-, q⟩
    · exact q
    · exact absurd (q.trans hj) (lt_irrefl _)

/-- With no entry `⊥`, the row before round `n` is the first with the sorted order's earlier positions struck out. -/
theorem rowAt_eq (a : Fin 49 → EReal) (ha : ∀ j, ⊥ < a j) (n : ℕ) (hn : n < 49) :
    ∀ j, rowAt a n j = if ∃ s : Fin 49, s.val < n ∧ order a s = j then ⊥ else a j := by
  induction n with
  | zero =>
    intro j
    rw [if_neg (by rintro ⟨s, hs, -⟩; exact absurd hs (Nat.not_lt_zero _))]
    rfl
  | succ n ih =>
    intro j
    have hn' : n < 49 := Nat.lt_of_succ_lt hn
    have ih := ih hn'
    show strike (rowAt a n) (pick (rowAt a n)) j = _
    rw [pick_struck a ha n hn' _ ih, strike_ofNat, ih]
    by_cases e : j = order a ⟨n, hn'⟩
    · rw [if_pos e, if_pos ⟨⟨n, hn'⟩, Nat.lt_succ_self n, e.symm⟩]
    · rw [if_neg e]
      by_cases q : ∃ s : Fin 49, s.val < n ∧ order a s = j
      · rw [if_pos q]
        obtain ⟨s, hs, h⟩ := q
        rw [if_pos ⟨s, Nat.lt_succ_of_lt hs, h⟩]
      · rw [if_neg q, if_neg]
        rintro ⟨s, hs, h⟩
        rcases Nat.lt_succ_iff_lt_or_eq.mp hs with hs | hs
        · exact q ⟨s, hs, h⟩
        · exact e (by rw [← h]; exact congrArg (order a) (Fin.ext hs))

/-- With no entry `⊥`, round `n` takes the sorted order's position `n`. -/
theorem pick_rowAt (a : Fin 49 → EReal) (ha : ∀ j, ⊥ < a j) (n : ℕ) (hn : n < 49) :
    pick (rowAt a n) = BitVec.ofNat 32 (order a ⟨n, hn⟩).val :=
  pick_struck a ha n hn _ (rowAt_eq a ha n hn)
end Cert.TopK
-- ==== Proof.Ideal.RefReads.lean ====
module

public import proofs.«01_k».proof.Proof.Gen.ReferenceIdeal.Run
public import proofs.«01_k».proof.Proof.Ideal.Sums
public import proofs.«01_k».proof.Proof.Ideal.TopK
public import Idealize.ShloMosaic.Lib.Pointwise
public import Idealize.ShloMosaic.Lib.IdealHost

/-! The reference's operations at an index, over operands of their shapes. -/

@[expose] public section
set_option maxRecDepth 16384
noncomputable section
namespace Cert.ReferenceIdeal.RefReads
open Cert.ReferenceIdeal Cert.ReferenceIdeal.Gen
open Idealize.ShloMosaic Idealize.ShloMosaic.TcCoe Idealize.ShloMosaic.Tactic

/-- The input projection: weight times pixel, summed over the channels, plus the bias. -/
theorem proj_read (w : Vec Ideal S1152x384x1x1 .f32) (x : Vec Ideal S4x384x56x56 .f32) (b0 : Vec Ideal S1152 .f32) (b : Fin 4) (o : Fin 1152) (h v : Fin 56) :
    addf (F := Ideal) (φ := .f32) (transpose S4x1152x56x56 [1, 0, 2, 3] (Host.dotGeneral (F := Ideal) (φ₁ := .f32) (φ₂ := .f32) dot_S1152x384_S4x384x56x56_S1152x4x56x56_1_1_0_023_n_n none (shapeCast S1152x384 w shapeCasts_S1152x384x1x1_S1152x384) x) transposes_S1152x4x56x56_S4x1152x56x56_1_0_2_3) (broadcastInDim S4x1152x56x56 ![0, 1, 2, 3] bcast_S1x1152x1x1_S4x1152x56x56_0_1_2_3 (broadcastInDim S1x1152x1x1 ![1] bcast_S1152_S1x1152x1x1_1 b0)) (ix4 b o h v)
      = (∑ k : Fin 384, w (ix4 o k 0 0) * x (ix4 b k h v)) + b0 (ix1 o) := by
  pointwise []

/-- The output projection. -/
theorem out_read (w : Vec Ideal S384x384x1x1 .f32) (x : Vec Ideal S4x384x56x56 .f32) (b0 : Vec Ideal S384 .f32) (b : Fin 4) (o : Fin 384) (h v : Fin 56) :
    addf (F := Ideal) (φ := .f32) (transpose S4x384x56x56 [1, 0, 2, 3] (Host.dotGeneral (F := Ideal) (φ₁ := .f32) (φ₂ := .f32) dot_S384x384_S4x384x56x56_S384x4x56x56_1_1_0_023_n_n none (shapeCast S384x384 w shapeCasts_S384x384x1x1_S384x384) x) transposes_S384x4x56x56_S4x384x56x56_1_0_2_3) (broadcastInDim S4x384x56x56 ![0, 1, 2, 3] bcast_S1x384x1x1_S4x384x56x56_0_1_2_3 (broadcastInDim S1x384x1x1 ![1] bcast_S384_S1x384x1x1_1 b0)) (ix4 b o h v)
      = (∑ k : Fin 384, w (ix4 o k 0 0) * x (ix4 b k h v)) + b0 (ix1 o) := by
  pointwise []

/-- The queries are the first 384 channels of the projection. -/
theorem slice0_read (x : Vec Ideal S4x1152x56x56 .f32) (b : Fin 4) (k : Fin 384) (h v : Fin 56) :
    extractStridedSlice S4x384x56x56 ![0, 0, 0, 0] x slices_S4x1152x56x56_S4x384x56x56_0_0_0_0 (ix4 b k h v) = x (ix4 b ⟨k.val, by omega⟩ h v) := by
  pointwise []
/-- The keys are the next 384 channels. -/
theorem slice384_read (x : Vec Ideal S4x1152x56x56 .f32) (b : Fin 4) (k : Fin 384) (h v : Fin 56) :
    extractStridedSlice S4x384x56x56 ![0, 384, 0, 0] x slices_S4x1152x56x56_S4x384x56x56_0_384_0_0 (ix4 b k h v) = x (ix4 b ⟨384 + k.val, by omega⟩ h v) := by
  pointwise []
/-- The values are the last 384 channels. -/
theorem slice768_read (x : Vec Ideal S4x1152x56x56 .f32) (b : Fin 4) (k : Fin 384) (h v : Fin 56) :
    extractStridedSlice S4x384x56x56 ![0, 768, 0, 0] x slices_S4x1152x56x56_S4x384x56x56_0_768_0_0 (ix4 b k h v) = x (ix4 b ⟨768 + k.val, by omega⟩ h v) := by
  pointwise []

/-- A map cut into windows: channel, window row, row inside it, window column, column inside it. -/
theorem cut_read (x : Vec Ideal S4x384x56x56 .f32) (b : Fin 4) (k : Fin 384) (i j : Fin 7) (a e : Fin 8) :
    shapeCast S4x384x7x8x7x8 x shapeCasts_S4x384x56x56_S4x384x7x8x7x8 (ix6 b k i a j e) = x (ix4 b k ⟨8 * i.val + a.val, by omega⟩ ⟨8 * j.val + e.val, by omega⟩) := by
  pointwise []
  simp only [Nat.mul_comm 8]

/-- The window means of a map. -/
def wmean (x : Vec Ideal S4x384x56x56 .f32) (b : Fin 4) (k : Fin 384) (i j : Fin 7) : EReal :=
  Ideal.div (∑ a : Fin 8, ∑ e : Fin 8, x (ix4 b k ⟨8 * i.val + a.val, by omega⟩ ⟨8 * j.val + e.val, by omega⟩)) (Ideal.ofBits .f32 0x42800000#32)

/-- The word of zero reads as zero. -/
theorem zero_bits : Ideal.ofBits .f32 0x00000000#32 = 0 := by simp [Ideal.ofBits, Ideal.ieee]

/-- The reference's pooled channel, at a window, is the sum of the window's pixels over 64. -/
theorem wmean_read (x : Vec Ideal S4x384x56x56 .f32) (b : Fin 4) (k : Fin 384) (i j : Fin 7) :
    Host.divf (F := Ideal) (φ := .f32) (Host.reduceAdd (shapeCast S4x384x7x8x7x8 x shapeCasts_S4x384x56x56_S4x384x7x8x7x8) (constant S_ .f32 0x00000000#32) reducesTo_S4x384x7x8x7x8_S4x384x7x7_d3_5 h_S_) (broadcastInDim S4x384x7x7 ![] bcast_S_S4x384x7x7 (constant S_ .f32 0x42800000#32)) (ix4 b k i j)
      = wmean x b k i j := by
  refine (congrArg (fun s => Ideal.div s (Ideal.ofBits .f32 0x42800000#32)) ((Cert.Sums.sum35 _ _ _ b k i j).trans ?_) : _)
  refine (congrArg₂ (· + ·) zero_bits (Finset.sum_congr rfl fun a _ => Finset.sum_congr rfl fun e _ => cut_read x b k i j a e)).trans (zero_add _)

/-- The similarities of two families of window means. -/
theorem sim_read (x y : Vec Ideal S4x384x7x7 .f32) (b : Fin 4) (r s : Fin 49) :
    Host.dotGeneral (F := Ideal) (φ₁ := .f32) (φ₂ := .f32) dot_S4x49x384_S4x384x49_S4x49x49_2_1_1_2_0_0 none (shapeCast S4x49x384 (transpose S4x7x7x384 [0, 2, 3, 1] x transposes_S4x384x7x7_S4x7x7x384_0_2_3_1) shapeCasts_S4x7x7x384_S4x49x384) (shapeCast S4x384x49 y shapeCasts_S4x384x7x7_S4x384x49) (ix3 b r s)
      = ∑ k : Fin 384, x (ix4 b k ⟨r.val / 7, by omega⟩ ⟨r.val % 7, by omega⟩) * y (ix4 b k ⟨s.val / 7, by omega⟩ ⟨s.val % 7, by omega⟩) := by
  pointwise []

/-- A map regrouped by head, window, pixel and channel in the head. -/
theorem regroup_read (x : Vec Ideal S4x384x56x56 .f32) (b : Fin 4) (h : Fin 12) (r : Fin 49) (p : Fin 64) (d : Fin 32) :
    shapeCast S4x12x49x64x32 (transpose S4x12x7x7x8x8x32 [0, 1, 3, 5, 4, 6, 2] (shapeCast S4x12x32x7x8x7x8 x shapeCasts_S4x384x56x56_S4x12x32x7x8x7x8) transposes_S4x12x32x7x8x7x8_S4x12x7x7x8x8x32_0_1_3_5_4_6_2) shapeCasts_S4x12x7x7x8x8x32_S4x12x49x64x32 (ix5 b h r p d)
      = x (ix4 b ⟨h.val * 32 + d.val, by omega⟩ ⟨8 * (r.val / 7) + p.val / 8, by omega⟩ ⟨8 * (r.val % 7) + p.val % 8, by omega⟩) := by
  pointwise []
  simp only [Nat.mul_comm 8]

/-- Back from heads, windows and pixels to a map. -/
theorem ungroup_read (x : Vec Ideal S4x12x49x64x32 .f32) (b : Fin 4) (c : Fin 384) (h v : Fin 56) :
    shapeCast S4x384x56x56 (transpose S4x12x32x7x8x7x8 [0, 1, 6, 2, 4, 3, 5] (shapeCast S4x12x7x7x8x8x32 x shapeCasts_S4x12x49x64x32_S4x12x7x7x8x8x32) transposes_S4x12x7x7x8x8x32_S4x12x32x7x8x7x8_0_1_6_2_4_3_5) shapeCasts_S4x12x32x7x8x7x8_S4x384x56x56 (ix4 b c h v)
      = x (ix5 b ⟨c.val / 32, by omega⟩ ⟨h.val / 8 * 7 + v.val / 8, by omega⟩ ⟨h.val % 8 * 8 + v.val % 8, by omega⟩ ⟨c.val % 32, by omega⟩) := by
  pointwise []

/-- The padded map. -/
theorem pad_read (x : Vec Ideal S4x384x56x56 .f32) (b : Fin 4) (k : Fin 384) (h w : Fin 60) :
    pad S4x384x60x60 ![0, 0, 2, 2] ![0, 0, 2, 2] ![0, 0, 0, 0] x (sitofp (F := Ideal) .f32 (constantI S_ 32 0#32)) pads_S4x384x56x56_S4x384x60x60_000_000_220_220 h_S_ (ix4 b k h w)
      = if hh : 2 ≤ h.val ∧ h.val < 58 ∧ 2 ≤ w.val ∧ w.val < 58 then x (ix4 b k ⟨h.val - 2, by omega⟩ ⟨w.val - 2, by omega⟩) else 0 := by
  pointwise []
  refine dite_congr (propext (by omega)) (fun _ => rfl) fun _ => ?_
  show (((0#32).toInt : ℝ) : EReal) = 0
  simp

/-- The filter's weights, regrouped, at an index. -/
theorem wts_read (x : Vec Ideal S384x1x5x5 .f32) (k : Fin 384) (i j : Fin 5) :
    shapeCast S1x384x5x5 x shapeCasts_S384x1x5x5_S1x384x5x5 (ix4 0 k i j) = x (ix4 k 0 i j) := by
  pointwise []

/-- Four gathered windows side by side. -/
theorem four_read (x : Vec Ideal S4x12x49x4x64x32 .f32) (b : Fin 4) (h : Fin 12) (r : Fin 49) (k : Fin 256) (d : Fin 32) :
    shapeCast S4x12x49x256x32 x shapeCasts_S4x12x49x4x64x32_S4x12x49x256x32 (ix5 b h r k d) = x (ix6 b h r ⟨k.val / 64, by omega⟩ ⟨k.val % 64, by omega⟩ d) := by
  pointwise []

/-! ## Attention -/

/-- The scores: the query divided by the root of the width, times the key, summed over a head's channels. -/
theorem score_read (q : Vec Ideal S4x12x49x64x32 .f32) (k : Vec Ideal S4x12x49x256x32 .f32) (b : Fin 4) (h : Fin 12) (r : Fin 49) (p : Fin 64) (j : Fin 256) :
    Host.dotGeneral (F := Ideal) (φ₁ := .f32) (φ₂ := .f32) dot_S4x12x49x64x32_S4x12x49x32x256_S4x12x49x64x256_4_3_3_4_012_012 none (Host.divf q (broadcastInDim S4x12x49x64x32 ![] bcast_S_S4x12x49x64x32 (Host.sqrt (constant S_ .f32 0x43C00000#32)))) (transpose S4x12x49x32x256 [0, 1, 2, 4, 3] k transposes_S4x12x49x256x32_S4x12x49x32x256_0_1_2_4_3) (ix5 b h r p j)
      = ∑ d : Fin 32, Ideal.div (q (ix5 b h r p d)) (Ideal.sqrt (Ideal.ofBits .f32 0x43C00000#32)) * k (ix5 b h r j d) := by
  pointwise []

/-- The exponentials: of each score less its row's given number. -/
theorem exp_read (s : Vec Ideal S4x12x49x64x256 .f32) (M : Vec Ideal S4x12x49x64 .f32) (b : Fin 4) (h : Fin 12) (r : Fin 49) (p : Fin 64) (j : Fin 256) :
    Host.exp (F := Ideal) (φ := .f32) (subf s (broadcastInDim S4x12x49x64x256 ![0, 1, 2, 3, 4] bcast_S4x12x49x64x1_S4x12x49x64x256_0_1_2_3_4 (broadcastInDim S4x12x49x64x1 ![0, 1, 2, 3] bcast_S4x12x49x64_S4x12x49x64x1_0_1_2_3 M))) (ix5 b h r p j)
      = Ideal.exp (s (ix5 b h r p j) - M (ix4 b h r p)) := by
  pointwise []

/-- The attended pixels: each weight divided by its row's sum, times the value, summed. -/
theorem attend_read (e : Vec Ideal S4x12x49x64x256 .f32) (v : Vec Ideal S4x12x49x256x32 .f32) (b : Fin 4) (h : Fin 12) (r : Fin 49) (p : Fin 64) (d : Fin 32) :
    Host.dotGeneral (F := Ideal) (φ₁ := .f32) (φ₂ := .f32) dot_S4x12x49x64x256_S4x12x49x256x32_S4x12x49x64x32_4_3_3_4_012_012 none (Host.divf e (broadcastInDim S4x12x49x64x256 ![0, 1, 2, 3, 4] bcast_S4x12x49x64x1_S4x12x49x64x256_0_1_2_3_4 (broadcastInDim S4x12x49x64x1 ![0, 1, 2, 3] bcast_S4x12x49x64_S4x12x49x64x1_0_1_2_3 (Host.reduceAdd e (constant S_ .f32 0x00000000#32) reducesTo_S4x12x49x64x256_S4x12x49x64_d4 h_S_)))) v (ix5 b h r p d)
      = ∑ j : Fin 256, Ideal.div (e (ix5 b h r p j)) (∑ i : Fin 256, e (ix5 b h r p i)) * v (ix5 b h r j d) := by
  pointwise []

/-! ## The twenty-five taps -/

/-- One tap: the padded value `di` rows and `dj` columns on, times its weight. -/
def tap (pd : Vec Ideal S4x384x60x60 .f32) (wt : Vec Ideal S1x384x5x5 .f32) (b : Fin 4) (k : Fin 384) (h x : Fin 56) (di dj : Fin 5) : EReal :=
  pd (ix4 b k ⟨di.val + h.val, by omega⟩ ⟨dj.val + x.val, by omega⟩) * wt (ix4 0 k di dj)

/-- The first thirteen taps. -/
theorem taps_lo (pd : Vec Ideal S4x384x60x60 .f32) (wt : Vec Ideal S1x384x5x5 .f32) (b : Fin 4) (k : Fin 384) (h x : Fin 56) :
    (addf (F := Ideal) (φ := .f32) (addf (addf (addf (addf (addf (addf (addf (addf (addf (addf (addf (addf (broadcastInDim S4x384x56x56 ![] bcast_S_S4x384x56x56 (constant S_ .f32 0x00000000#32)) (mulf (extractStridedSlice S4x384x56x56 ![0, 0, 0, 0] pd slices_S4x384x60x60_S4x384x56x56_0_0_0_0) (broadcastInDim S4x384x56x56 ![0, 1, 2, 3] bcast_S1x384x1x1_S4x384x56x56_0_1_2_3 (extractStridedSlice S1x384x1x1 ![0, 0, 0, 0] wt slices_S1x384x5x5_S1x384x1x1_0_0_0_0)))) (mulf (extractStridedSlice S4x384x56x56 ![0, 0, 0, 1] pd slices_S4x384x60x60_S4x384x56x56_0_0_0_1) (broadcastInDim S4x384x56x56 ![0, 1, 2, 3] bcast_S1x384x1x1_S4x384x56x56_0_1_2_3 (extractStridedSlice S1x384x1x1 ![0, 0, 0, 1] wt slices_S1x384x5x5_S1x384x1x1_0_0_0_1)))) (mulf (extractStridedSlice S4x384x56x56 ![0, 0, 0, 2] pd slices_S4x384x60x60_S4x384x56x56_0_0_0_2) (broadcastInDim S4x384x56x56 ![0, 1, 2, 3] bcast_S1x384x1x1_S4x384x56x56_0_1_2_3 (extractStridedSlice S1x384x1x1 ![0, 0, 0, 2] wt slices_S1x384x5x5_S1x384x1x1_0_0_0_2)))) (mulf (extractStridedSlice S4x384x56x56 ![0, 0, 0, 3] pd slices_S4x384x60x60_S4x384x56x56_0_0_0_3) (broadcastInDim S4x384x56x56 ![0, 1, 2, 3] bcast_S1x384x1x1_S4x384x56x56_0_1_2_3 (extractStridedSlice S1x384x1x1 ![0, 0, 0, 3] wt slices_S1x384x5x5_S1x384x1x1_0_0_0_3)))) (mulf (extractStridedSlice S4x384x56x56 ![0, 0, 0, 4] pd slices_S4x384x60x60_S4x384x56x56_0_0_0_4) (broadcastInDim S4x384x56x56 ![0, 1, 2, 3] bcast_S1x384x1x1_S4x384x56x56_0_1_2_3 (extractStridedSlice S1x384x1x1 ![0, 0, 0, 4] wt slices_S1x384x5x5_S1x384x1x1_0_0_0_4)))) (mulf (extractStridedSlice S4x384x56x56 ![0, 0, 1, 0] pd slices_S4x384x60x60_S4x384x56x56_0_0_1_0) (broadcastInDim S4x384x56x56 ![0, 1, 2, 3] bcast_S1x384x1x1_S4x384x56x56_0_1_2_3 (extractStridedSlice S1x384x1x1 ![0, 0, 1, 0] wt slices_S1x384x5x5_S1x384x1x1_0_0_1_0)))) (mulf (extractStridedSlice S4x384x56x56 ![0, 0, 1, 1] pd slices_S4x384x60x60_S4x384x56x56_0_0_1_1) (broadcastInDim S4x384x56x56 ![0, 1, 2, 3] bcast_S1x384x1x1_S4x384x56x56_0_1_2_3 (extractStridedSlice S1x384x1x1 ![0, 0, 1, 1] wt slices_S1x384x5x5_S1x384x1x1_0_0_1_1)))) (mulf (extractStridedSlice S4x384x56x56 ![0, 0, 1, 2] pd slices_S4x384x60x60_S4x384x56x56_0_0_1_2) (broadcastInDim S4x384x56x56 ![0, 1, 2, 3] bcast_S1x384x1x1_S4x384x56x56_0_1_2_3 (extractStridedSlice S1x384x1x1 ![0, 0, 1, 2] wt slices_S1x384x5x5_S1x384x1x1_0_0_1_2)))) (mulf (extractStridedSlice S4x384x56x56 ![0, 0, 1, 3] pd slices_S4x384x60x60_S4x384x56x56_0_0_1_3) (broadcastInDim S4x384x56x56 ![0, 1, 2, 3] bcast_S1x384x1x1_S4x384x56x56_0_1_2_3 (extractStridedSlice S1x384x1x1 ![0, 0, 1, 3] wt slices_S1x384x5x5_S1x384x1x1_0_0_1_3)))) (mulf (extractStridedSlice S4x384x56x56 ![0, 0, 1, 4] pd slices_S4x384x60x60_S4x384x56x56_0_0_1_4) (broadcastInDim S4x384x56x56 ![0, 1, 2, 3] bcast_S1x384x1x1_S4x384x56x56_0_1_2_3 (extractStridedSlice S1x384x1x1 ![0, 0, 1, 4] wt slices_S1x384x5x5_S1x384x1x1_0_0_1_4)))) (mulf (extractStridedSlice S4x384x56x56 ![0, 0, 2, 0] pd slices_S4x384x60x60_S4x384x56x56_0_0_2_0) (broadcastInDim S4x384x56x56 ![0, 1, 2, 3] bcast_S1x384x1x1_S4x384x56x56_0_1_2_3 (extractStridedSlice S1x384x1x1 ![0, 0, 2, 0] wt slices_S1x384x5x5_S1x384x1x1_0_0_2_0)))) (mulf (extractStridedSlice S4x384x56x56 ![0, 0, 2, 1] pd slices_S4x384x60x60_S4x384x56x56_0_0_2_1) (broadcastInDim S4x384x56x56 ![0, 1, 2, 3] bcast_S1x384x1x1_S4x384x56x56_0_1_2_3 (extractStridedSlice S1x384x1x1 ![0, 0, 2, 1] wt slices_S1x384x5x5_S1x384x1x1_0_0_2_1)))) (mulf (extractStridedSlice S4x384x56x56 ![0, 0, 2, 2] pd slices_S4x384x60x60_S4x384x56x56_0_0_2_2) (broadcastInDim S4x384x56x56 ![0, 1, 2, 3] bcast_S1x384x1x1_S4x384x56x56_0_1_2_3 (extractStridedSlice S1x384x1x1 ![0, 0, 2, 2] wt slices_S1x384x5x5_S1x384x1x1_0_0_2_2)))) (ix4 b k h x)
      = Ideal.ofBits .f32 0x00000000#32 + tap pd wt b k h x 0 0 + tap pd wt b k h x 0 1 + tap pd wt b k h x 0 2 + tap pd wt b k h x 0 3 + tap pd wt b k h x 0 4 + tap pd wt b k h x 1 0 + tap pd wt b k h x 1 1 + tap pd wt b k h x 1 2 + tap pd wt b k h x 1 3 + tap pd wt b k h x 1 4 + tap pd wt b k h x 2 0 + tap pd wt b k h x 2 1 + tap pd wt b k h x 2 2 := by
  pointwise []
  simp only [tap, Fin.val_zero, Nat.zero_add]
  rfl

/-- The last twelve, and the bias. -/
theorem taps_hi (y : Vec Ideal S4x384x56x56 .f32) (pd : Vec Ideal S4x384x60x60 .f32) (wt : Vec Ideal S1x384x5x5 .f32) (bl : Vec Ideal S384 .f32) (b : Fin 4) (k : Fin 384) (h x : Fin 56) :
    (addf (F := Ideal) (φ := .f32) (addf (addf (addf (addf (addf (addf (addf (addf (addf (addf (addf (addf y (mulf (extractStridedSlice S4x384x56x56 ![0, 0, 2, 3] pd slices_S4x384x60x60_S4x384x56x56_0_0_2_3) (broadcastInDim S4x384x56x56 ![0, 1, 2, 3] bcast_S1x384x1x1_S4x384x56x56_0_1_2_3 (extractStridedSlice S1x384x1x1 ![0, 0, 2, 3] wt slices_S1x384x5x5_S1x384x1x1_0_0_2_3)))) (mulf (extractStridedSlice S4x384x56x56 ![0, 0, 2, 4] pd slices_S4x384x60x60_S4x384x56x56_0_0_2_4) (broadcastInDim S4x384x56x56 ![0, 1, 2, 3] bcast_S1x384x1x1_S4x384x56x56_0_1_2_3 (extractStridedSlice S1x384x1x1 ![0, 0, 2, 4] wt slices_S1x384x5x5_S1x384x1x1_0_0_2_4)))) (mulf (extractStridedSlice S4x384x56x56 ![0, 0, 3, 0] pd slices_S4x384x60x60_S4x384x56x56_0_0_3_0) (broadcastInDim S4x384x56x56 ![0, 1, 2, 3] bcast_S1x384x1x1_S4x384x56x56_0_1_2_3 (extractStridedSlice S1x384x1x1 ![0, 0, 3, 0] wt slices_S1x384x5x5_S1x384x1x1_0_0_3_0)))) (mulf (extractStridedSlice S4x384x56x56 ![0, 0, 3, 1] pd slices_S4x384x60x60_S4x384x56x56_0_0_3_1) (broadcastInDim S4x384x56x56 ![0, 1, 2, 3] bcast_S1x384x1x1_S4x384x56x56_0_1_2_3 (extractStridedSlice S1x384x1x1 ![0, 0, 3, 1] wt slices_S1x384x5x5_S1x384x1x1_0_0_3_1)))) (mulf (extractStridedSlice S4x384x56x56 ![0, 0, 3, 2] pd slices_S4x384x60x60_S4x384x56x56_0_0_3_2) (broadcastInDim S4x384x56x56 ![0, 1, 2, 3] bcast_S1x384x1x1_S4x384x56x56_0_1_2_3 (extractStridedSlice S1x384x1x1 ![0, 0, 3, 2] wt slices_S1x384x5x5_S1x384x1x1_0_0_3_2)))) (mulf (extractStridedSlice S4x384x56x56 ![0, 0, 3, 3] pd slices_S4x384x60x60_S4x384x56x56_0_0_3_3) (broadcastInDim S4x384x56x56 ![0, 1, 2, 3] bcast_S1x384x1x1_S4x384x56x56_0_1_2_3 (extractStridedSlice S1x384x1x1 ![0, 0, 3, 3] wt slices_S1x384x5x5_S1x384x1x1_0_0_3_3)))) (mulf (extractStridedSlice S4x384x56x56 ![0, 0, 3, 4] pd slices_S4x384x60x60_S4x384x56x56_0_0_3_4) (broadcastInDim S4x384x56x56 ![0, 1, 2, 3] bcast_S1x384x1x1_S4x384x56x56_0_1_2_3 (extractStridedSlice S1x384x1x1 ![0, 0, 3, 4] wt slices_S1x384x5x5_S1x384x1x1_0_0_3_4)))) (mulf (extractStridedSlice S4x384x56x56 ![0, 0, 4, 0] pd slices_S4x384x60x60_S4x384x56x56_0_0_4_0) (broadcastInDim S4x384x56x56 ![0, 1, 2, 3] bcast_S1x384x1x1_S4x384x56x56_0_1_2_3 (extractStridedSlice S1x384x1x1 ![0, 0, 4, 0] wt slices_S1x384x5x5_S1x384x1x1_0_0_4_0)))) (mulf (extractStridedSlice S4x384x56x56 ![0, 0, 4, 1] pd slices_S4x384x60x60_S4x384x56x56_0_0_4_1) (broadcastInDim S4x384x56x56 ![0, 1, 2, 3] bcast_S1x384x1x1_S4x384x56x56_0_1_2_3 (extractStridedSlice S1x384x1x1 ![0, 0, 4, 1] wt slices_S1x384x5x5_S1x384x1x1_0_0_4_1)))) (mulf (extractStridedSlice S4x384x56x56 ![0, 0, 4, 2] pd slices_S4x384x60x60_S4x384x56x56_0_0_4_2) (broadcastInDim S4x384x56x56 ![0, 1, 2, 3] bcast_S1x384x1x1_S4x384x56x56_0_1_2_3 (extractStridedSlice S1x384x1x1 ![0, 0, 4, 2] wt slices_S1x384x5x5_S1x384x1x1_0_0_4_2)))) (mulf (extractStridedSlice S4x384x56x56 ![0, 0, 4, 3] pd slices_S4x384x60x60_S4x384x56x56_0_0_4_3) (broadcastInDim S4x384x56x56 ![0, 1, 2, 3] bcast_S1x384x1x1_S4x384x56x56_0_1_2_3 (extractStridedSlice S1x384x1x1 ![0, 0, 4, 3] wt slices_S1x384x5x5_S1x384x1x1_0_0_4_3)))) (mulf (extractStridedSlice S4x384x56x56 ![0, 0, 4, 4] pd slices_S4x384x60x60_S4x384x56x56_0_0_4_4) (broadcastInDim S4x384x56x56 ![0, 1, 2, 3] bcast_S1x384x1x1_S4x384x56x56_0_1_2_3 (extractStridedSlice S1x384x1x1 ![0, 0, 4, 4] wt slices_S1x384x5x5_S1x384x1x1_0_0_4_4)))) (broadcastInDim S4x384x56x56 ![0, 1, 2, 3] bcast_S1x384x1x1_S4x384x56x56_0_1_2_3 (broadcastInDim S1x384x1x1 ![1] bcast_S384_S1x384x1x1_1 bl))) (ix4 b k h x)
      = y (ix4 b k h x) + tap pd wt b k h x 2 3 + tap pd wt b k h x 2 4 + tap pd wt b k h x 3 0 + tap pd wt b k h x 3 1 + tap pd wt b k h x 3 2 + tap pd wt b k h x 3 3 + tap pd wt b k h x 3 4 + tap pd wt b k h x 4 0 + tap pd wt b k h x 4 1 + tap pd wt b k h x 4 2 + tap pd wt b k h x 4 3 + tap pd wt b k h x 4 4 + bl (ix1 k) := by
  pointwise []
  simp only [tap, Fin.val_zero, Nat.zero_add]
  rfl

/-- A left-nested sum of twenty-five numbers is their sum. -/
theorem sum25 (f : Fin 5 → Fin 5 → EReal) :
    f 0 0 + f 0 1 + f 0 2 + f 0 3 + f 0 4 + f 1 0 + f 1 1 + f 1 2 + f 1 3 + f 1 4 + f 2 0 + f 2 1 + f 2 2 + f 2 3 + f 2 4 + f 3 0 + f 3 1 + f 3 2 + f 3 3 + f 3 4 + f 4 0 + f 4 1 + f 4 2 + f 4 3 + f 4 4 = ∑ t : Fin 25, f ⟨t.val / 5, by omega⟩ ⟨t.val % 5, by omega⟩ := by
  simp only [Fin.sum_univ_succ, Fin.sum_univ_zero, add_zero]
  simp only [← add_assoc]
  rfl

/-- The two halves of the filter together, with a bias of zero. -/
theorem taps_join (f : Fin 5 → Fin 5 → EReal) (y z bl : EReal) (hy : y = Ideal.ofBits .f32 0x00000000#32 + f 0 0 + f 0 1 + f 0 2 + f 0 3 + f 0 4 + f 1 0 + f 1 1 + f 1 2 + f 1 3 + f 1 4 + f 2 0 + f 2 1 + f 2 2)
    (hz : z = y + f 2 3 + f 2 4 + f 3 0 + f 3 1 + f 3 2 + f 3 3 + f 3 4 + f 4 0 + f 4 1 + f 4 2 + f 4 3 + f 4 4 + bl) (hb : bl = 0) :
    z = ∑ t : Fin 25, f ⟨t.val / 5, by omega⟩ ⟨t.val % 5, by omega⟩ := by
  rw [hz, hb, add_zero, hy, zero_bits, zero_add]
  exact sum25 f

end Cert.ReferenceIdeal.RefReads
-- ==== Proof.Ideal.RefChoice.lean ====
module

public import proofs.«01_k».proof.Proof.Gen.ReferenceIdeal.Run
public import proofs.«01_k».proof.Proof.Ideal.Sums
public import proofs.«01_k».proof.Proof.Ideal.TopK
public import Idealize.ShloMosaic.Lib.Pointwise
public import Idealize.ShloMosaic.Lib.IdealHost
public import Idealize.ShloMosaic.PureOps.Reduce

/-! The reference's choice of windows, its gather and its row maximum, at an index. -/

@[expose] public section
set_option maxRecDepth 16384
noncomputable section
namespace Cert.ReferenceIdeal.RefChoice
open Cert.ReferenceIdeal Cert.ReferenceIdeal.Gen
open Idealize.ShloMosaic Idealize.ShloMosaic.TcCoe Idealize.ShloMosaic.Tactic

/-! ## The chosen windows -/

section Generic

attribute [local irreducible] sortedFrom sortPositions

/-- The positions of the largest entries of a row, at an index: the row's stable order, cut. -/
theorem topk_gen {A R N n : Nat} (gt : EReal → EReal → BitVec 1) (x : (⟨3, ![A, R, N]⟩ : Shape).Idx → EReal)
    (hs : (⟨3, ![A, R, N]⟩ : Shape).Slices (fun _ => 0) ⟨3, ![A, R, n]⟩) (b : Fin A) (r : Fin R) (k : Fin n) (k' : Fin N) (hk : k'.val = k.val) :
    (Host.topK ⟨3, ![A, R, n]⟩ 2 gt x hs).2 (ix3 b r k)
      = BitVec.ofNat 32 (sortedFrom (fun u v => gt (x (ix3 b r u)) (x (ix3 b r v)) == 1#1) k').val := by
  have ha : ∀ j : Fin N, ((ix3 b r k' : (⟨3, ![A, R, N]⟩ : Shape).Idx).along 2 j) = (ix3 b r j : (⟨3, ![A, R, N]⟩ : Shape).Idx) := by
    intro j; funext a
    match a with
    | ⟨0, _⟩ => rfl
    | ⟨1, _⟩ => rfl
    | ⟨2, _⟩ => rfl
  have h0 : (Host.topK ⟨3, ![A, R, n]⟩ 2 gt x hs).2 (ix3 b r k)
      = (Host.sort2 (⟨3, ![A, R, N]⟩ : Shape) 2 (fun l r => gt l.1 r.1) x (iotaInDim ⟨3, ![A, R, N]⟩ 32 2)).2 (ix3 b r k') := by
    refine congrArg (Host.sort2 (⟨3, ![A, R, N]⟩ : Shape) 2 (fun l r => gt l.1 r.1) x (iotaInDim ⟨3, ![A, R, N]⟩ 32 2)).2 (funext fun a => ?_)
    match a with
    | ⟨0, _⟩ => exact Fin.ext (Nat.zero_add _)
    | ⟨1, _⟩ => exact Fin.ext (Nat.zero_add _)
    | ⟨2, _⟩ => exact Fin.ext ((Nat.zero_add _).trans hk.symm)
  refine h0.trans ?_
  show (iotaInDim ⟨3, ![A, R, N]⟩ 32 2) ((ix3 b r k' : (⟨3, ![A, R, N]⟩ : Shape).Idx).along 2 (sortedFrom (n := N) (fun u v => gt (x ((ix3 b r k' : (⟨3, ![A, R, N]⟩ : Shape).Idx).along 2 u)) (x ((ix3 b r k' : (⟨3, ![A, R, N]⟩ : Shape).Idx).along 2 v)) == 1#1) k')) = _
  refine (congrArg (iotaInDim ⟨3, ![A, R, N]⟩ 32 2) (ha _)).trans ?_
  refine congrArg (fun f : Fin N → Fin N → Bool => BitVec.ofNat 32 (sortedFrom f k').val) ?_
  funext u v
  exact congrArg₂ (fun y z : EReal => gt y z == 1#1) (congrArg x (ha u)) (congrArg x (ha v))

/-- A reduction by maximum along the last of five axes, at an index. -/
theorem max_gen {A B C D N : Nat} {S : Shape} (f : EReal → EReal → EReal) (hf : f = max) (x : (⟨5, ![A, B, C, D, N]⟩ : Shape).Idx → EReal) (init : S.Idx → EReal)
    (h' : (⟨5, ![A, B, C, D, N]⟩ : Shape).ReducesTo [4] ⟨4, ![A, B, C, D]⟩) (h : (⟨5, ![A, B, C, D, N]⟩ : Shape).Reduces [4] ⟨4, ![A, B, C, D]⟩) (hu : 0 < S.numel)
    (b : Fin A) (i : Fin B) (r : Fin C) (p : Fin D) :
    Host.reduce f x init h' hu (ix4 b i r p) = Finset.fold max (init (Shape.Idx.first hu)) (fun j : Fin N => x (ix5 b i r p j)) Finset.univ := by
  subst hf
  refine (Host.reduce_eq_fold_single (max : EReal → EReal → EReal) x init h' h hu (ix4 b i r p)).trans ?_
  refine congrArg (fun f : Fin N → EReal => Finset.fold max (init (Shape.Idx.first hu)) f Finset.univ) ?_
  funext j
  refine congrArg x (funext fun a => ?_)
  match a with
  | ⟨0, _⟩ => rfl
  | ⟨1, _⟩ => rfl
  | ⟨2, _⟩ => rfl
  | ⟨3, _⟩ => rfl
  | ⟨4, _⟩ => rfl

/-- The largest four's positions: the first four of the stable order of a row, largest first. -/
theorem topk_read (x : Vec Ideal S4x49x49 .f32) (b : Fin 4) (r : Fin 49) (n : Fin 4) :
    (Host.topK S4x49x4 2 (FloatOps.cmpfTotal (F := Ideal) (φ := .f32) .gt) x sliceFits_S4x49x49_S4x49x4).2 (ix3 b r n)
      = BitVec.ofNat 32 (Cert.TopK.order (fun s => x (ix3 b r s)) ⟨n.val, by omega⟩).val := by
  refine (topk_gen (A := 4) (R := 49) (N := 49) (n := 4) (FloatOps.cmpfTotal (F := Ideal) (φ := .f32) .gt) x sliceFits_S4x49x49_S4x49x4 b r n ⟨n.val, Nat.lt_trans n.isLt (by decide)⟩ rfl).trans ?_
  have hb : ∀ y z : EReal, (FloatOps.cmpfTotal (F := Ideal) (φ := .f32) .gt y z == 1#1) = decide (z < y) := by
    intro y z
    show (BitVec.ofBool (decide (z < y)) == 1#1) = decide (z < y)
    cases decide (z < y) <;> rfl
  unfold Cert.TopK.order
  refine congrArg (fun f : Fin 49 → Fin 49 → Bool => BitVec.ofNat 32 (sortedFrom f ⟨n.val, Nat.lt_trans n.isLt (by decide)⟩).val) ?_
  funext u v
  exact hb _ _

end Generic

/-- The gathered windows: each choice's window, out of a map grouped by head and window. -/
theorem gather_read (x : Vec Ideal S4x12x49x64x32 .f32) (idx : IVec S4x49x4 32) (b : Fin 4) (h : Fin 12) (r : Fin 49) (n : Fin 4) (p : Fin 64) (d : Fin 32)
    (w : Fin 49) (hw : idx (ix3 b r n) = BitVec.ofNat 32 w.val) :
    Host.gather gather_S4x12x49x64x32_S4x49x4x1_S4x12x49x4x64x32_145_2_0_0_2_3_11216432 x (broadcastInDim S4x49x4x1 ![0, 1, 2] bcast_S4x49x4_S4x49x4x1_0_1_2 idx) (ix6 b h r n p d)
      = x (ix5 b h w p d) := by
  refine congrArg x (funext fun a => ?_)
  have hw' : (BitVec.ofNat 32 w.val).toInt.toNat = w.val := by clear hw; revert w; decide
  match a with
  | ⟨0, _⟩ => exact Fin.ext (Nat.zero_add b.val)
  | ⟨1, _⟩ => exact Fin.ext (Nat.zero_add h.val)
  | ⟨2, _⟩ =>
    refine Fin.ext ?_
    show min (idx _).toInt.toNat 48 + 0 + 0 = w.val
    refine (congrArg (fun z : BitVec 32 => min z.toInt.toNat 48 + 0 + 0) ((congrArg idx ?_).trans hw)).trans ?_
    · funext a
      match a with
      | ⟨0, _⟩ => rfl
      | ⟨1, _⟩ => rfl
      | ⟨2, _⟩ => rfl
    · have := w.isLt; simp only [hw']; omega
  | ⟨3, _⟩ => exact Fin.ext (Nat.zero_add p.val)
  | ⟨4, _⟩ => exact Fin.ext (Nat.zero_add d.val)

/-- The elementwise maximum, at an index. -/
theorem maximumf_at (x y : Vec Ideal S4x12x49x64 .f32) (i : S4x12x49x64.Idx) : maximumf (F := Ideal) (φ := .f32) x y i = max (x i) (y i) := rfl

/-- The row maximum the softmax subtracts. -/
theorem max_read (s : Vec Ideal S4x12x49x64x256 .f32) (b : Fin 4) (h : Fin 12) (r : Fin 49) (p : Fin 64) :
    maximumf (F := Ideal) (φ := .f32) (broadcastInDim S4x12x49x64 ![] bcast_S_S4x12x49x64 (constant S_ .f32 0xFF800000#32)) (Host.reduce FloatOps.maximumf s (constant S_ .f32 0xFF800000#32) reducesTo_S4x12x49x64x256_S4x12x49x64_d4 h_S_) (ix4 b h r p)
      = max (Ideal.ofBits .f32 0xFF800000#32) (Finset.fold max (Ideal.ofBits .f32 0xFF800000#32) (fun i : Fin 256 => s (ix5 b h r p i)) Finset.univ) := by
  have e := max_gen (A := 4) (B := 12) (C := 49) (D := 64) (N := 256) (FloatOps.maximumf (F := Ideal) (φ := .f32)) rfl s (constant (F := Ideal) S_ .f32 0xFF800000#32) reducesTo_S4x12x49x64x256_S4x12x49x64_d4 (by decide) h_S_ b h r p
  refine (maximumf_at _ _ _).trans (congrArg₂ (fun y z : EReal => max y z) ?_ (e.trans ?_))
  · rfl
  · exact congrArg (fun z : EReal => Finset.fold max z (fun i : Fin 256 => s (ix5 b h r p i)) Finset.univ) (show constant (F := Ideal) S_ .f32 0xFF800000#32 (Shape.Idx.first h_S_) = Ideal.ofBits .f32 0xFF800000#32 from rfl)

end Cert.ReferenceIdeal.RefChoice
-- ==== Proof.Ideal.Value1.lean ====
module

public import proofs.«01_k».proof.Proof.Ideal.Stage1
public import proofs.«01_k».proof.Proof.Ideal.Sums
public import Idealize.ShloMosaic.Lib.Pipeline.ValueKit
public import Idealize.ShloMosaic.Lib.Pointwise
public import Idealize.ShloMosaic.Lib.IdealHost

/-! The first call's arrays after its run, index by index: each entry is a projection of one pixel, or the mean of one window's projections. -/

@[expose] public section
set_option maxRecDepth 16384
noncomputable section
namespace Cert.KernelIdeal.Value1
open Cert.KernelIdeal.Gen Cert.KernelIdeal.Stage1
open Idealize.ShloMosaic Idealize.ShloMosaic.TcCoe Idealize.ShloMosaic.Tactic
open Idealize.ShloMosaic.Pipeline (Dat)
open Idealize.SL.Sem

/-- The projection of pixel `(h, w)` of image `b` on output channel `o`, from the image with its channels last, the transposed weights and the bias row. -/
def proj (x : Vec Ideal S4x56x56x384 .f32) (w1 : Vec Ideal S384x1152 .f32) (b1 : Vec Ideal S1x1152 .f32)
    (b : Fin 4) (o : Fin 1152) (h w : Fin 56) : EReal :=
  (∑ k : Fin 384, x (ix4 b h w k) * w1 (Idealize.ShloMosaic.ix2 k o)) + b1 (Idealize.ShloMosaic.ix2 0 o)

section Pure
variable (x0 : Vec Ideal S1x8x56x384 .f32) (x1 : Vec Ideal S384x1152 .f32) (x2 : Vec Ideal S1x1152 .f32)

/-- The projection of one strip's pixel `(a, w)`. -/
def sproj (o : Fin 1152) (a : Fin 8) (w : Fin 56) : EReal :=
  (∑ k : Fin 384, x0 (ix4 0 a w k) * x1 (Idealize.ShloMosaic.ix2 k o)) + x2 (Idealize.ShloMosaic.ix2 0 o)

/-- The strip's projection, its columns split by windows, read at an index. -/
theorem k0_val_apply (a : Fin 8) (j : Fin 7) (e : Fin 8) (o : Fin 1152) :
    k0_val x0 x1 x2 (ix4 a j e o) = sproj x0 x1 x2 o a ⟨8 * j.val + e.val, by omega⟩ := by
  unfold k0_val sproj
  pointwise [k0_pay6, k0_pay5]
  congr 1
  refine Finset.sum_congr rfl fun k _ => ?_
  congr 3
  apply Fin.ext; simp only; omega

/-- The same of the payload that `k0_val` names. -/
theorem k0_pay6_apply (a : Fin 8) (j : Fin 7) (e : Fin 8) (o : Fin 1152) :
    k0_pay6 (View.ld x0 r0_0) (View.ld x1 r0_1) (View.ld x2 r0_2) (ix4 a j e o) = sproj x0 x1 x2 o a ⟨8 * j.val + e.val, by omega⟩ :=
  k0_val_apply x0 x1 x2 a j e o

/-- The regrouped strip, read at an index. -/
theorem out0_3_apply (y : S1x7x1152x64.Idx) (o : Fin 1152) (a : Fin 8) (w : Fin 56) (ho : (y 2).val = o.val) (ha : (y 3).val / 8 = a.val)
    (hw : 8 * (y 1).val + (y 3).val % 8 = w.val) : out0_3 x0 x1 x2 y = sproj x0 x1 x2 o a w := by
  unfold out0_3
  canon_tiles x h
  all_goals pointwise [k0_pay14, k0_pay13, k0_pay12, k0_pay11, k0_pay10, k0_pay9, k0_pay8, k0_pay7]
  all_goals refine (k0_val_apply x0 x1 x2 _ _ _ _).trans ?_
  all_goals (congr 1 <;> apply Fin.ext <;> (try simp only) <;> omega)

/-- The strip's values with the channels last, read at an index. -/
theorem out0_4_apply (y : S1x8x56x384.Idx) (o : Fin 1152) (ho : o.val = 768 + (y 3).val) :
    out0_4 x0 x1 x2 y = sproj x0 x1 x2 o (y 1) (y 2) := by
  have e : o = ⟨768 + (y 3).val, by have h : (y 3).val < 384 := (y 3).isLt; omega⟩ := Fin.ext ho
  rw [e]; clear e
  unfold out0_4 sproj
  frame_out
  pointwise [k0_pay1, k0_pay15, k0_pay5]

/-- One window's mean of a channel, over the strip. -/
def smean (o : Fin 1152) (j : Fin 7) : EReal :=
  Ideal.div (∑ a : Fin 8, ∑ e : Fin 8, sproj x0 x1 x2 o a ⟨8 * j.val + e.val, by omega⟩) (Ideal.ofBits .f32 0x42800000#32)

/-- The body's means, at a window and a channel. -/
theorem k0_pay2_apply (j : Fin 7) (o : Fin 1152) : k0_pay2 (k0_val x0 x1 x2) (Idealize.ShloMosaic.ix2 j o) = smean x0 x1 x2 o j := by
  unfold smean
  pointwise [k0_pay2]
  congr 1
  refine (Cert.Sums.sum02 _ _ j o).trans (Finset.sum_congr rfl fun a _ => Finset.sum_congr rfl fun e _ => ?_)
  exact k0_val_apply x0 x1 x2 a j e o

/-- What the body leaves of the queries' means, at an index. -/
theorem out0_5_apply (y : S1x1x7x384.Idx) (o : Fin 1152) (ho : o.val = (y 3).val) :
    out0_5 x0 x1 x2 y = smean x0 x1 x2 o (y 2) := by
  unfold out0_5
  frame_out
  pointwise [k0_pay3]
  refine (k0_pay2_apply x0 x1 x2 _ _).trans ?_
  congr 1
  exact Fin.ext ho.symm

/-- What the body leaves of the keys' means, at an index. -/
theorem out0_6_apply (y : S1x1x7x384.Idx) (o : Fin 1152) (ho : o.val = 384 + (y 3).val) :
    out0_6 x0 x1 x2 y = smean x0 x1 x2 o (y 2) := by
  unfold out0_6
  frame_out
  pointwise [k0_pay4]
  refine (k0_pay2_apply x0 x1 x2 _ _).trans ?_
  congr 1
  exact Fin.ext ho.symm
end Pure

variable (V : Dev nD → Valuation τ sig (Elt Ideal)) (c : Dev nD)

/-- The first call's index maps, at every grid point. -/
theorem idx0 : ∀ t : Fin cfg0.N, win0_0.index t = ![(grid0.coords t 0).val, (grid0.coords t 1).val, 0, 0]
    ∧ win0_1.index t = ![0, 0] ∧ win0_2.index t = ![0, 0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 1).val, 0, 0]
    ∧ win0_6.index t = ![(grid0.coords t 0).val, (grid0.coords t 1).val, 0, 0] := by decide +kernel

/-- A strip's projection is the whole image's at the strip's rows. -/
theorem sproj_blk (t : Fin cfg0.N) (b : Fin 4) (o : Fin 1152) (a : Fin 8) (h w : Fin 56) (hb : b.val = (grid0.coords t 0).val)
    (hh : h.val = 8 * (grid0.coords t 1).val + a.val) :
    sproj (iblk V c 0 t) (iblk V c 1 t) (iblk V c 2 t) o a w
      = proj (V c (Proc.devRef .tc main_v3)) (V c (Proc.devRef .tc main_v1)) (V c (Proc.devRef .tc main_v2)) b o h w := by
  unfold sproj proj
  obtain ⟨e0, e1, e2, -⟩ := idx0 t
  congr 1
  · refine Finset.sum_congr rfl fun k _ => ?_
    congr 1 <;> blk_ext [iblk, e0, e1, e2]
  · blk_ext [iblk, e0, e1, e2]

/-- What a point leaves of the regrouped projection. -/
theorem out0_3_blk (t : Fin cfg0.N) (y : S1x7x1152x64.Idx) (b : Fin 4) (o : Fin 1152) (h w : Fin 56) (hb : b.val = (grid0.coords t 0).val)
    (ho : o.val = (y 2).val) (hh : h.val = 8 * (grid0.coords t 1).val + (y 3).val / 8) (hw : w.val = 8 * (y 1).val + (y 3).val % 8) :
    out0_3 (iblk V c 0 t) (iblk V c 1 t) (iblk V c 2 t) y
      = proj (V c (Proc.devRef .tc main_v3)) (V c (Proc.devRef .tc main_v1)) (V c (Proc.devRef .tc main_v2)) b o h w := by
  have h3 : (y 3).val < 64 := (y 3).isLt
  refine (out0_3_apply _ _ _ y o ⟨(y 3).val / 8, by omega⟩ w ho.symm rfl hw.symm).trans ?_
  exact sproj_blk V c t b o _ h w hb hh

/-- The regrouped projection after the run. -/
theorem arr3 : (dat V c).arrAt 3 cfg0.N = fun i : S4x49x1152x64.Idx =>
    proj (V c (Proc.devRef .tc main_v3)) (V c (Proc.devRef .tc main_v1)) (V c (Proc.devRef .tc main_v2)) (i 0) (i 2)
      ⟨8 * ((i 1).val / 7) + (i 3).val / 8, by have h1 : (i 1).val < 49 := (i 1).isLt; have h2 : (i 3).val < 64 := (i 3).isLt; omega⟩
      ⟨8 * ((i 1).val % 7) + (i 3).val % 8, by have h1 : (i 1).val < 49 := (i 1).isLt; have h2 : (i 3).val < 64 := (i 3).isLt; omega⟩ := by
  refine (dat V c).arrAt_eq_of_covers 3 _ (by decide +kernel) fun t hf y => ?_
  blk_simp
  rw [after0_3]
  obtain ⟨-, -, -, e, -⟩ := idx0 t
  have h1 : (y 1).val < 7 := (y 1).isLt
  have h3 : (y 3).val < 64 := (y 3).isLt
  have h0 : (y 0).val < 1 := (y 0).isLt
  refine out0_3_blk V c t y _ _ _ _ ?_ ?_ ?_ ?_ <;> blk_simp [e] <;> (try simp only) <;> omega

/-- The strip's values, channels last, after the run. -/
theorem arr4 : (dat V c).arrAt 4 cfg0.N = fun i : S4x56x56x384.Idx =>
    proj (V c (Proc.devRef .tc main_v3)) (V c (Proc.devRef .tc main_v1)) (V c (Proc.devRef .tc main_v2)) (i 0)
      ⟨768 + (i 3).val, by have h1 : (i 3).val < 384 := (i 3).isLt; omega⟩ (i 1) (i 2) := by
  refine (dat V c).arrAt_eq_of_covers 4 _ (by decide +kernel) fun t hf y => ?_
  blk_simp
  rw [after0_4]
  obtain ⟨-, -, -, -, e, -⟩ := idx0 t
  have h0 : (y 0).val < 1 := (y 0).isLt
  have h3 : (y 3).val < 384 := (y 3).isLt
  refine (out0_4_apply _ _ _ y ⟨768 + (y 3).val, by omega⟩ rfl).trans ?_
  refine (sproj_blk V c t ((win0_4.blk t).view.emb y 0) _ _ ((win0_4.blk t).view.emb y 1) _ ?_ ?_).trans ?_
  · blk_simp [e] <;> omega
  · blk_simp [e] <;> omega
  · congr 1 <;> apply Fin.ext <;> blk_simp [e] <;> (try simp only) <;> omega

/-- The mean of one window's projections. -/
def pmean (x : Vec Ideal S4x56x56x384 .f32) (w1 : Vec Ideal S384x1152 .f32) (b1 : Vec Ideal S1x1152 .f32)
    (b : Fin 4) (o : Fin 1152) (i j : Fin 7) : EReal :=
  Ideal.div (∑ a : Fin 8, ∑ e : Fin 8, proj x w1 b1 b o ⟨8 * i.val + a.val, by omega⟩ ⟨8 * j.val + e.val, by omega⟩) (Ideal.ofBits .f32 0x42800000#32)

/-- A mean computed from a point's blocks is the mean of the whole arrays at the point's place. -/
theorem smean_blk (t : Fin cfg0.N) (b : Fin 4) (o : Fin 1152) (i j : Fin 7) (hb : b.val = (grid0.coords t 0).val)
    (hi : i.val = (grid0.coords t 1).val) :
    smean (iblk V c 0 t) (iblk V c 1 t) (iblk V c 2 t) o j
      = pmean (V c (Proc.devRef .tc main_v3)) (V c (Proc.devRef .tc main_v1)) (V c (Proc.devRef .tc main_v2)) b o i j := by
  refine congrArg (fun s => Ideal.div s (Ideal.ofBits .f32 0x42800000#32)) (Finset.sum_congr rfl fun a _ => Finset.sum_congr rfl fun e _ => ?_)
  exact sproj_blk V c t b o a _ _ hb (by simp only [hi])

/-- The query means after the run. -/
theorem arr5 : (dat V c).arrAt 5 cfg0.N = fun i : S4x7x7x384.Idx =>
    pmean (V c (Proc.devRef .tc main_v3)) (V c (Proc.devRef .tc main_v1)) (V c (Proc.devRef .tc main_v2)) (i 0)
      ⟨(i 3).val, by have h1 : (i 3).val < 384 := (i 3).isLt; omega⟩ (i 1) (i 2) := by
  refine (dat V c).arrAt_eq_of_covers 5 _ (by decide +kernel) fun t hf y => ?_
  blk_simp
  rw [after0_5]
  obtain ⟨-, -, -, -, -, e, -⟩ := idx0 t
  have h0 : (y 0).val < 1 := (y 0).isLt
  have h1 : (y 1).val < 1 := (y 1).isLt
  have h3 : (y 3).val < 384 := (y 3).isLt
  refine (out0_5_apply _ _ _ y ⟨(y 3).val, by omega⟩ rfl).trans ?_
  refine (smean_blk V c t ((win0_5.blk t).view.emb y 0) _ ((win0_5.blk t).view.emb y 1) _ ?_ ?_).trans ?_
  · blk_simp [e] <;> omega
  · blk_simp [e] <;> omega
  · congr 1 <;> apply Fin.ext <;> blk_simp [e] <;> (try simp only) <;> omega

/-- The key means after the run. -/
theorem arr6 : (dat V c).arrAt 6 cfg0.N = fun i : S4x7x7x384.Idx =>
    pmean (V c (Proc.devRef .tc main_v3)) (V c (Proc.devRef .tc main_v1)) (V c (Proc.devRef .tc main_v2)) (i 0)
      ⟨384 + (i 3).val, by have h1 : (i 3).val < 384 := (i 3).isLt; omega⟩ (i 1) (i 2) := by
  refine (dat V c).arrAt_eq_of_covers 6 _ (by decide +kernel) fun t hf y => ?_
  blk_simp
  rw [after0_6]
  obtain ⟨-, -, -, -, -, -, e⟩ := idx0 t
  have h0 : (y 0).val < 1 := (y 0).isLt
  have h1 : (y 1).val < 1 := (y 1).isLt
  have h3 : (y 3).val < 384 := (y 3).isLt
  refine (out0_6_apply _ _ _ y ⟨384 + (y 3).val, by omega⟩ rfl).trans ?_
  refine (smean_blk V c t ((win0_6.blk t).view.emb y 0) _ ((win0_6.blk t).view.emb y 1) _ ?_ ?_).trans ?_
  · blk_simp [e] <;> omega
  · blk_simp [e] <;> omega
  · congr 1 <;> apply Fin.ext <;> blk_simp [e] <;> (try simp only) <;> omega

end Cert.KernelIdeal.Value1
-- ==== Proof.Ideal.ValueRoute.lean ====
module

public import proofs.«01_k».proof.Proof.Ideal.Route
public import proofs.«01_k».proof.Proof.Ideal.TopK
public import Idealize.ShloMosaic.Lib.Pipeline.ValueKit
public import Idealize.ShloMosaic.Lib.Pointwise
public import Idealize.ShloMosaic.Lib.IdealHost

/-! The routing call's table after its run: per window, the positions of the four greatest similarities, in order. -/

@[expose] public section
set_option maxRecDepth 16384
noncomputable section
namespace Cert.KernelIdeal.ValueRoute
open Cert.KernelIdeal.Gen Cert.KernelIdeal.Route
open Idealize.ShloMosaic Idealize.ShloMosaic.TcCoe Idealize.ShloMosaic.Tactic
open Idealize.ShloMosaic.Pipeline (Dat)
open Idealize.SL.Sem
open Cert.TopK (pick strike rowAt)

section Pure
variable (x0 x1 : Vec Ideal S1x7x7x384 .f32)

/-- The similarity of windows `r` and `s`, from one image's means. -/
def ssim (r s : Fin 49) : EReal :=
  ∑ k : Fin 384, x0 (ix4 0 ⟨r.val / 7, by omega⟩ ⟨r.val % 7, by omega⟩ k) * x1 (ix4 0 ⟨s.val / 7, by omega⟩ ⟨s.val % 7, by omega⟩ k)

/-- A read of the whole block is the block. -/
theorem ld_all (x : Vec Ideal S1x7x7x384 .f32) : View.ld x r0_0 = x := by
  funext i
  pointwise
  have h0 : (i 0).val < 1 := (i 0).isLt
  refine congrArg x (funext fun a => ?_)
  fin_cases a
  · apply Fin.ext; show 0 = (i 0).val; omega
  all_goals rfl

/-- The body's similarities, at an index. -/
theorem pay2_apply (r s : Fin 49) : k1_pay2 (View.ld x0 r0_0) (View.ld x1 r0_0) (Idealize.ShloMosaic.ix2 r s) = ssim x0 x1 r s := by
  unfold ssim
  pointwise [k1_pay2]

/-- The first round's choice. -/
theorem pay3_apply (r : Fin 49) (z : Fin 1) :
    k1_pay3 (View.ld x0 r0_0) (View.ld x1 r0_0) (Idealize.ShloMosaic.ix2 r z) = pick (ssim x0 x1 r) := by
  have e : ssim x0 x1 r = fun s => k1_pay2 (View.ld x0 r0_0) (View.ld x1 r0_0) (Idealize.ShloMosaic.ix2 r s) :=
    funext fun s => (pay2_apply x0 x1 r s).symm
  rw [e]
  unfold pick
  pointwise [k1_pay3]

/-- The similarities with the first choice struck out. -/
theorem pay4_apply (r s : Fin 49) :
    k1_pay4 (View.ld x0 r0_0) (View.ld x1 r0_0) (Idealize.ShloMosaic.ix2 r s) = rowAt (ssim x0 x1 r) 1 s := by
  have e : rowAt (ssim x0 x1 r) 1 s = Scalar.select (IntOp.cmpi .eq (BitVec.ofNat 32 s.val) (k1_pay3 (View.ld x0 r0_0) (View.ld x1 r0_0) (Idealize.ShloMosaic.ix2 r 0)))
      (Ideal.ofBits .f32 0xFF800000#32) (k1_pay2 (View.ld x0 r0_0) (View.ld x1 r0_0) (Idealize.ShloMosaic.ix2 r s)) := by
    rw [pay3_apply, pay2_apply]; rfl
  rw [e]
  pointwise [k1_pay4]

/-- The second round's choice. -/
theorem pay5_apply (r : Fin 49) (z : Fin 1) :
    k1_pay5 (View.ld x0 r0_0) (View.ld x1 r0_0) (Idealize.ShloMosaic.ix2 r z) = pick (rowAt (ssim x0 x1 r) 1) := by
  have e : rowAt (ssim x0 x1 r) 1 = fun s => k1_pay4 (View.ld x0 r0_0) (View.ld x1 r0_0) (Idealize.ShloMosaic.ix2 r s) :=
    funext fun s => (pay4_apply x0 x1 r s).symm
  rw [e]
  unfold pick
  pointwise [k1_pay5]

/-- The similarities with two choices struck out. -/
theorem pay6_apply (r s : Fin 49) :
    k1_pay6 (View.ld x0 r0_0) (View.ld x1 r0_0) (Idealize.ShloMosaic.ix2 r s) = rowAt (ssim x0 x1 r) 2 s := by
  have e : rowAt (ssim x0 x1 r) 2 s = Scalar.select (IntOp.cmpi .eq (BitVec.ofNat 32 s.val) (k1_pay5 (View.ld x0 r0_0) (View.ld x1 r0_0) (Idealize.ShloMosaic.ix2 r 0)))
      (Ideal.ofBits .f32 0xFF800000#32) (k1_pay4 (View.ld x0 r0_0) (View.ld x1 r0_0) (Idealize.ShloMosaic.ix2 r s)) := by
    rw [pay5_apply, pay4_apply]; rfl
  rw [e]
  pointwise [k1_pay6]

/-- The third round's choice. -/
theorem pay7_apply (r : Fin 49) :
    k1_pay7 (View.ld x0 r0_0) (View.ld x1 r0_0) (ix1 r) = pick (rowAt (ssim x0 x1 r) 2) := by
  have e : rowAt (ssim x0 x1 r) 2 = fun s => k1_pay6 (View.ld x0 r0_0) (View.ld x1 r0_0) (Idealize.ShloMosaic.ix2 r s) :=
    funext fun s => (pay6_apply x0 x1 r s).symm
  rw [e]
  unfold pick
  pointwise [k1_pay7]

/-- The table's columns: the first three rounds' choices, then the last one's, then zeros. -/
theorem pay1_read (v15 v27 : IVec S49x1 32) (v31 : FVec Ideal S49x49 .f32) (v38 : IVec S49 32) (r : Fin 49) (p : Fin 128) :
    k1_pay1 (iota .tc S49x49 32 [1] iota_S49x49_d1_w32) v15 v27 v31 v38 (ix3 0 r p)
      = if p.val < 4 then (if p.val < 1 then v15 (Idealize.ShloMosaic.ix2 r 0) else if p.val - 1 < 1 then v27 (Idealize.ShloMosaic.ix2 r 0) else if p.val - 1 - 1 < 1 then v38 (ix1 r)
          else pick (strike (fun s => v31 (Idealize.ShloMosaic.ix2 r s)) (v38 (ix1 r)))) else 0#32 := by
  unfold pick strike
  pointwise [k1_pay1]
  by_cases h4 : p.val < 4
  · rw [dif_pos h4, if_pos h4]
    by_cases h1 : p.val < 1
    · rw [dif_pos h1, if_pos h1, Fin.eq_zero (⟨p.val, h1⟩ : Fin 1)]
    · rw [dif_neg h1, if_neg h1]
      by_cases h2 : p.val - 1 < 1
      · rw [dif_pos h2, if_pos h2, Fin.eq_zero (⟨p.val - 1, h2⟩ : Fin 1)]
      · rw [dif_neg h2, if_neg h2]
        by_cases h3 : p.val - 1 - 1 < 1
        · rw [dif_pos h3, if_pos h3]
        · rw [dif_neg h3, if_neg h3]
  · rw [dif_neg h4, if_neg h4]

/-- The body's table row: four choices, then zeros. -/
theorem pay1_apply (r : Fin 49) (p : Fin 128) :
    k1_pay1 (iota .tc S49x49 32 [1] iota_S49x49_d1_w32) (k1_pay3 (View.ld x0 r0_0) (View.ld x1 r0_0)) (k1_pay5 (View.ld x0 r0_0) (View.ld x1 r0_0)) (k1_pay6 (View.ld x0 r0_0) (View.ld x1 r0_0)) (k1_pay7 (View.ld x0 r0_0) (View.ld x1 r0_0)) (ix3 0 r p)
      = if p.val < 4 then pick (rowAt (ssim x0 x1 r) p.val) else 0#32 := by
  have e : (fun s => k1_pay6 (View.ld x0 r0_0) (View.ld x1 r0_0) (Idealize.ShloMosaic.ix2 r s)) = rowAt (ssim x0 x1 r) 2 :=
    funext fun s => pay6_apply x0 x1 r s
  rw [pay1_read, pay3_apply, pay5_apply, pay7_apply, e]
  by_cases h4 : p.val < 4
  · rw [if_pos h4, if_pos h4]
    by_cases h1 : p.val < 1
    · rw [if_pos h1, show p.val = 0 by omega]
      rfl
    · rw [if_neg h1]
      by_cases h2 : p.val - 1 < 1
      · rw [if_pos h2, show p.val = 1 by omega]
      · rw [if_neg h2]
        by_cases h3 : p.val - 1 - 1 < 1
        · rw [if_pos h3, show p.val = 2 by omega]
        · rw [if_neg h3, show p.val = 3 by omega]
          rfl
  · rw [if_neg h4, if_neg h4]

/-- What the body leaves of the table, at an index. -/
theorem out0_2_apply (y : S1x49x128.Idx) (r : Fin 49) (p : Fin 128) (hr : (y 1).val = r.val) (hp : (y 2).val = p.val) :
    out0_2 x0 x1 y = if p.val < 4 then pick (rowAt (ssim x0 x1 r) p.val) else 0#32 := by
  have e : y = ix3 0 r p := by
    have h0 : (y 0).val < 1 := (y 0).isLt
    funext a; fin_cases a
    · apply Fin.ext; show (y 0).val = 0; omega
    · exact Fin.ext hr
    · exact Fin.ext hp
  rw [e]
  unfold out0_2
  frame_out
  have h := pay1_apply x0 x1 r p
  rwa [ld_all, ld_all] at h
end Pure

variable (V : Dev nD → Valuation τ sig (Elt Ideal)) (c : Dev nD)

/-- The routing call's index maps, at every grid point. -/
theorem idx1 : ∀ t : Fin cfg1.N, win1_0.index t = ![(grid1.coords t 0).val, 0, 0, 0] ∧ win1_1.index t = ![(grid1.coords t 0).val, 0, 0, 0]
    ∧ win1_2.index t = ![(grid1.coords t 0).val, 0, 0] := by decide +kernel

/-- The similarity of windows `r` and `s` of image `b`. -/
def sim (pq pk : Vec Ideal S4x7x7x384 .f32) (b : Fin 4) (r s : Fin 49) : EReal :=
  ∑ k : Fin 384, pq (ix4 b ⟨r.val / 7, by omega⟩ ⟨r.val % 7, by omega⟩ k) * pk (ix4 b ⟨s.val / 7, by omega⟩ ⟨s.val % 7, by omega⟩ k)

/-- A similarity computed from a point's blocks is the one of the whole arrays. -/
theorem ssim_blk (t : Fin cfg1.N) (b : Fin 4) (hb : b.val = (grid1.coords t 0).val) (r s : Fin 49) :
    ssim (iblk V c 0 t) (iblk V c 1 t) r s = sim (V c (Proc.devRef .tc main_v4_2)) (V c (Proc.devRef .tc main_v4_3)) b r s := by
  unfold ssim sim
  obtain ⟨e0, e1, -⟩ := idx1 t
  refine Finset.sum_congr rfl fun k _ => ?_
  congr 1 <;> blk_ext [iblk, e0, e1]

/-- The table after the run. -/
theorem arr2 : (dat V c).arrAt 2 cfg1.N = fun i : S4x49x128.Idx =>
    if (i 2).val < 4 then pick (rowAt (sim (V c (Proc.devRef .tc main_v4_2)) (V c (Proc.devRef .tc main_v4_3)) (i 0) (i 1)) (i 2).val) else 0#32 := by
  refine (dat V c).arrAt_eq_of_covers 2 _ (by decide +kernel) fun t hf y => ?_
  rw [after0_2]
  obtain ⟨-, -, e⟩ := idx1 t
  have h0 : (y 0).val < 1 := (y 0).isLt
  have h1 : (y 1).val < 49 := (y 1).isLt
  have h2 : (y 2).val < 128 := (y 2).isLt
  refine (out0_2_apply _ _ y ((win1_2.blk t).view.emb y 1) ((win1_2.blk t).view.emb y 2) ?_ ?_).trans ?_
  · blk_simp [e] <;> omega
  · blk_simp [e] <;> omega
  have hs : ssim (iblk V c 0 t) (iblk V c 1 t) ((win1_2.blk t).view.emb y 1) = sim (V c (Proc.devRef .tc main_v4_2)) (V c (Proc.devRef .tc main_v4_3)) ((win1_2.blk t).view.emb y 0) ((win1_2.blk t).view.emb y 1) := by
    funext s
    refine ssim_blk V c t _ ?_ _ _
    blk_simp [e] <;> omega
  rw [hs]

end Cert.KernelIdeal.ValueRoute
-- ==== Proof.Ideal.ValueAttn.lean ====
module

public import proofs.«01_k».proof.Proof.Ideal.Attn
public import Idealize.ShloMosaic.Lib.Pipeline.ValueKit
public import Idealize.ShloMosaic.Lib.Pointwise
public import Idealize.ShloMosaic.Lib.IdealHost

/-! The attention call's array after its run, index by index: one window's pixels against those of the four windows its row of the table names. -/

@[expose] public section
set_option maxRecDepth 16384
noncomputable section
namespace Cert.KernelIdeal.ValueAttn
open Cert.KernelIdeal.Gen Cert.KernelIdeal.Attn
open Idealize.ShloMosaic Idealize.ShloMosaic.TcCoe Idealize.ShloMosaic.Tactic
open Idealize.ShloMosaic.Pipeline (Dat)
open Idealize.SL.Sem

/-- The scale's value. -/
def scale : EReal := (Named.named κ "scale" 0x3D5105EC#32 : Ideal .f32)

/-- A query pixel's score against key `k`, from the 32 channels of channel `c`'s head. -/
def score (q : Fin 384 → Fin 64 → EReal) (K : Fin 384 → Fin 256 → EReal) (c : Fin 384) (p : Fin 64) (k : Fin 256) : EReal :=
  (∑ d : Fin 32, q ⟨c.val / 32 * 32 + d.val, by omega⟩ p * K ⟨c.val / 32 * 32 + d.val, by omega⟩ k) * scale

/-- Channel `c` of a pixel's attention output: the values' sum weighted by the scores' exponentials, over the weights' sum. -/
def attend (q : Fin 384 → Fin 64 → EReal) (K V : Fin 384 → Fin 256 → EReal) (c : Fin 384) (p : Fin 64) : EReal :=
  Ideal.div (∑ k : Fin 256, V c k * Ideal.exp (score q K c p k)) (∑ k : Fin 256, Ideal.exp (score q K c p k))

/-- Four blocks side by side. -/
def side (x : Fin 4 → Vec Ideal S1x1x384x64 .bf16) (c : Fin 384) (k : Fin 256) : EReal :=
  x ⟨k.val / 64, by omega⟩ (ix4 0 0 c ⟨k.val % 64, by omega⟩)

section Pure

/-- The body's arithmetic over its stacked operands. -/
theorem pay1_read (v19 : FVec Ideal S384x256 .bf16) (v20 : FVec Ideal S12x32x64 .bf16) (v21 : FVec Ideal S12x32x256 .bf16) (c : Fin 384) (p : Fin 64) :
    k2_pay1 v19 v20 v21 (ix4 0 0 c p)
      = Ideal.div (∑ k : Fin 256, v19 (Idealize.ShloMosaic.ix2 c k)
            * Ideal.exp ((∑ d : Fin 32, v20 (ix3 ⟨c.val / 32, by omega⟩ d p) * v21 (ix3 ⟨c.val / 32, by omega⟩ d k)) * scale))
          (∑ k : Fin 256, Ideal.exp ((∑ d : Fin 32, v20 (ix3 ⟨c.val / 32, by omega⟩ d p) * v21 (ix3 ⟨c.val / 32, by omega⟩ d k)) * scale)) := by
  unfold scale
  pointwise [k2_pay1]
  split
  · rfl
  · next h =>
    have e1 : (⟨6 + (c.val / 32 - 6), by omega⟩ : Fin 12) = ⟨c.val / 32, by omega⟩ := Fin.ext (by simp only; omega)
    have e2 : (⟨(6 + (c.val / 32 - 6)) * 32 + c.val % 32, by omega⟩ : Fin 384) = c := Fin.ext (by simp only; omega)
    simp only [e1, e2]

/-- Four columns of width 64, chosen one after the other, are one family. -/
theorem ladder (f : Fin 4 → Fin 64 → EReal) (k : Fin 256) :
    (if h : k.val < 64 then f 0 ⟨k.val, h⟩ else if h : k.val - 64 < 64 then f 1 ⟨k.val - 64, h⟩
      else if h : k.val - 64 - 64 < 64 then f 2 ⟨k.val - 64 - 64, h⟩ else f 3 ⟨k.val - 64 - 64 - 64, by omega⟩)
      = f ⟨k.val / 64, by omega⟩ ⟨k.val % 64, by omega⟩ := by
  split
  · exact congrArg₂ f (Fin.ext (show 0 = k.val / 64 by omega)) (Fin.ext (by simp only; omega))
  · split
    · exact congrArg₂ f (Fin.ext (show 1 = k.val / 64 by omega)) (Fin.ext (by simp only; omega))
    · split
      · exact congrArg₂ f (Fin.ext (show 2 = k.val / 64 by omega)) (Fin.ext (by simp only; omega))
      · exact congrArg₂ f (Fin.ext (show 3 = k.val / 64 by omega)) (Fin.ext (by simp only; omega))

/-- The query block by heads, at an index. -/
theorem pay3_read (x : Vec Ideal S1x1x384x64 .bf16) (h : Fin 12) (d : Fin 32) (p : Fin 64) :
    k2_pay3 x (ix3 h d p) = x (ix4 0 0 ⟨h.val * 32 + d.val, by omega⟩ p) := by
  pointwise [k2_pay3]

/-- The four value blocks side by side, at an index. -/
theorem pay2_read (x : Fin 4 → Vec Ideal S1x1x384x64 .bf16) (c : Fin 384) (k : Fin 256) :
    k2_pay2 (x 0) (x 1) (x 2) (x 3) (Idealize.ShloMosaic.ix2 c k) = side x c k := by
  unfold side
  pointwise [k2_pay2]
  exact ladder (fun t j => x t (ix4 0 0 c j)) k

/-- The four key blocks side by side, by heads, at an index. -/
theorem pay4_read (x : Fin 4 → Vec Ideal S1x1x384x64 .bf16) (h : Fin 12) (d : Fin 32) (k : Fin 256) :
    k2_pay4 (x 0) (x 1) (x 2) (x 3) (ix3 h d k) = side x ⟨h.val * 32 + d.val, by omega⟩ k := by
  unfold side
  pointwise [k2_pay4]
  exact ladder (fun t j => x t (ix4 0 0 ⟨h.val * 32 + d.val, by omega⟩ j)) k

/-- The window's block after the body. -/
theorem out2_9_apply (q : Vec Ideal S1x1x384x64 .bf16) (k v : Fin 4 → Vec Ideal S1x1x384x64 .bf16) (y : S1x1x384x64.Idx) (c : Fin 384) (p : Fin 64)
    (hc : (y 2).val = c.val) (hp : (y 3).val = p.val) :
    out2_9 q (k 0) (k 1) (k 2) (k 3) (v 0) (v 1) (v 2) (v 3) y = attend (fun c p => q (ix4 0 0 c p)) (side k) (side v) c p := by
  have e : y = ix4 0 0 c p := by
    have h0 : (y 0).val < 1 := (y 0).isLt
    have h1 : (y 1).val < 1 := (y 1).isLt
    funext a; fin_cases a
    · apply Fin.ext; show (y 0).val = 0; omega
    · apply Fin.ext; show (y 1).val = 0; omega
    · exact Fin.ext hc
    · exact Fin.ext hp
  rw [e]
  unfold out2_9
  frame_out
  refine (pay1_read _ _ _ c p).trans ?_
  simp only [pay2_read, pay3_read, pay4_read]
  rfl

end Pure

variable (V : Dev nD → Valuation τ sig (Elt Ideal)) (a : (pcfg2 (F := Ideal)).Adm) (c : Dev nD)

/-- The table's word for window `r` of image `b`, choice `n`. -/
def word (b : Fin 4) (r : Fin 49) (n : Fin 128) : BitVec 32 := a.1 0 (ix3 b r n)

/-- A small number survives the passage through a word. -/
theorem coords_val (n : ℕ) (h : n < 64) : (Scalar.indexCast (BitVec.ofNat 32 n)).toNat = n := by
  show (BitVec.ofNat 32 n).toNat = n
  rw [BitVec.toNat_ofNat]; omega

/-- The word an index map reads off the table. -/
theorem at_eq (i : grid2.Coords) (n : Fin 128) (off : Fin 3 → ℕ) (h0 : off 0 = (i 0).val) (h1 : off 1 = (i 1).val) (h2 : off 2 = n.val)
    (hb : ∀ d, off d + S1x1x1.size d ≤ S4x49x128.size d) (h : S1x1x1.numel = 1) :
    a.1.at 0 (Rect.unit (s := S4x49x128) off S1x1x1.size hb) h = word a (i 0) (i 1) n := by
  unfold word
  refine congrArg (a.1 0) (funext fun d => ?_)
  fin_cases d
  · apply Fin.ext
    show off 0 + 1 * 0 = (i 0).val
    rw [h0]; omega
  · apply Fin.ext
    show off 1 + 1 * 0 = (i 1).val
    rw [h1]; omega
  · apply Fin.ext
    show off 2 + 1 * 0 = n.val
    rw [h2]; omega

/-- The first grid coordinate survives the passage through a word. -/
theorem c0_val (i : grid2.Coords) : (Scalar.indexCast (BitVec.ofNat 32 (i 0).val)).toNat = (i 0).val :=
  coords_val _ (by have h : (i 0).val < 4 := (i 0).isLt; omega)
/-- The second grid coordinate survives the passage through a word. -/
theorem c1_val (i : grid2.Coords) : (Scalar.indexCast (BitVec.ofNat 32 (i 1).val)).toNat = (i 1).val :=
  coords_val _ (by have h : (i 1).val < 49 := (i 1).isLt; omega)

/-- A block index built of the first grid coordinate, a table's word and a third coordinate. -/
theorem idx_of (i : grid2.Coords) (n : Fin 128) (z : ℕ) (w : BitVec 32) (hw : w = word a (i 0) (i 1) n) :
    (![(BitVec.ofNat 32 (i 0).val).toNat, w.toNat, z, (0#32).toNat] : Fin 4 → ℕ) = ![(i 0).val, (word a (i 0) (i 1) n).toNat, z, 0] := by
  rw [hw, show (BitVec.ofNat 32 (i 0).val).toNat = (i 0).val from c0_val i]; rfl

/-- Key window 1 sits at the image, at the region that the table's word 0 names, in the second channel block. -/
theorem idx2_1 (t : Fin (cfg2 a).N) : ((cfg2 a).win 1).index t = ![(grid2.coords t 0).val, (word a (grid2.coords t 0) (grid2.coords t 1) 0).toNat, 1, 0] :=
  idx_of a (grid2.coords t) 0 1 _ (at_eq a _ 0 _ (c0_val _) (c1_val _) rfl _ _)
/-- Key window 2 sits at the image, at the region that the table's word 1 names, in the second channel block. -/
theorem idx2_2 (t : Fin (cfg2 a).N) : ((cfg2 a).win 2).index t = ![(grid2.coords t 0).val, (word a (grid2.coords t 0) (grid2.coords t 1) 1).toNat, 1, 0] :=
  idx_of a (grid2.coords t) 1 1 _ (at_eq a _ 1 _ (c0_val _) (c1_val _) rfl _ _)
/-- Key window 3 sits at the image, at the region that the table's word 2 names, in the second channel block. -/
theorem idx2_3 (t : Fin (cfg2 a).N) : ((cfg2 a).win 3).index t = ![(grid2.coords t 0).val, (word a (grid2.coords t 0) (grid2.coords t 1) 2).toNat, 1, 0] :=
  idx_of a (grid2.coords t) 2 1 _ (at_eq a _ 2 _ (c0_val _) (c1_val _) rfl _ _)
/-- Key window 4 sits at the image, at the region that the table's word 3 names, in the second channel block. -/
theorem idx2_4 (t : Fin (cfg2 a).N) : ((cfg2 a).win 4).index t = ![(grid2.coords t 0).val, (word a (grid2.coords t 0) (grid2.coords t 1) 3).toNat, 1, 0] :=
  idx_of a (grid2.coords t) 3 1 _ (at_eq a _ 3 _ (c0_val _) (c1_val _) rfl _ _)
/-- Value window 1 sits at the image, at the region that the table's word 0 names, in the third channel block. -/
theorem idx2_5 (t : Fin (cfg2 a).N) : ((cfg2 a).win 5).index t = ![(grid2.coords t 0).val, (word a (grid2.coords t 0) (grid2.coords t 1) 0).toNat, 2, 0] :=
  idx_of a (grid2.coords t) 0 2 _ (at_eq a _ 0 _ (c0_val _) (c1_val _) rfl _ _)
/-- Value window 2 sits at the image, at the region that the table's word 1 names, in the third channel block. -/
theorem idx2_6 (t : Fin (cfg2 a).N) : ((cfg2 a).win 6).index t = ![(grid2.coords t 0).val, (word a (grid2.coords t 0) (grid2.coords t 1) 1).toNat, 2, 0] :=
  idx_of a (grid2.coords t) 1 2 _ (at_eq a _ 1 _ (c0_val _) (c1_val _) rfl _ _)
/-- Value window 3 sits at the image, at the region that the table's word 2 names, in the third channel block. -/
theorem idx2_7 (t : Fin (cfg2 a).N) : ((cfg2 a).win 7).index t = ![(grid2.coords t 0).val, (word a (grid2.coords t 0) (grid2.coords t 1) 2).toNat, 2, 0] :=
  idx_of a (grid2.coords t) 2 2 _ (at_eq a _ 2 _ (c0_val _) (c1_val _) rfl _ _)
/-- Value window 4 sits at the image, at the region that the table's word 3 names, in the third channel block. -/
theorem idx2_8 (t : Fin (cfg2 a).N) : ((cfg2 a).win 8).index t = ![(grid2.coords t 0).val, (word a (grid2.coords t 0) (grid2.coords t 1) 3).toNat, 2, 0] :=
  idx_of a (grid2.coords t) 3 2 _ (at_eq a _ 3 _ (c0_val _) (c1_val _) rfl _ _)
/-- The query and output index maps give the image and the region. -/
theorem idx2_09 : ∀ i : grid2.Coords, cc2_transform_0 i = ![(i 0).val, (i 1).val, 0, 0] ∧ cc2_transform_9 i = ![(i 0).val, (i 1).val, 0, 0] := by
  decide +kernel
/-- The query window sits at the image and the region of the point. -/
theorem idx2_0 (t : Fin (cfg2 a).N) : ((cfg2 a).win 0).index t = ![(grid2.coords t 0).val, (grid2.coords t 1).val, 0, 0] := (idx2_09 (grid2.coords t)).1
/-- The output window sits at the image and the region of the point. -/
theorem idx2_9 (t : Fin (cfg2 a).N) : ((cfg2 a).win 9).index t = ![(grid2.coords t 0).val, (grid2.coords t 1).val, 0, 0] := (idx2_09 (grid2.coords t)).2

/-- Every block of the output is left at a point after which the block changes. -/
theorem key9 : ∀ (p : Fin 4) (q : Fin 49), ∃ t : Fin grid2.N,
    (t.val + 1 = grid2.N || decide (∃ h : t.val + 1 < grid2.N, cc2_transform_9 (grid2.coords ⟨t.val + 1, h⟩) ≠ cc2_transform_9 (grid2.coords t))) = true
      ∧ (grid2.coords t 0).val = p.val ∧ (grid2.coords t 1).val = q.val := by
  have h : ∀ (p : Fin 4) (q : Fin 49), ∃ hl : p.val * 49 + q.val < grid2.N,
      (((p.val * 49 + q.val) + 1 = grid2.N || decide (∃ h : (p.val * 49 + q.val) + 1 < grid2.N, cc2_transform_9 (grid2.coords ⟨(p.val * 49 + q.val) + 1, h⟩) ≠ cc2_transform_9 (grid2.coords ⟨p.val * 49 + q.val, hl⟩))) = true
      ∧ (grid2.coords ⟨p.val * 49 + q.val, hl⟩ 0).val = p.val ∧ (grid2.coords ⟨p.val * 49 + q.val, hl⟩ 1).val = q.val) := by
    decide +kernel
  intro p q
  obtain ⟨hl, h1, h2, h3⟩ := h p q
  exact ⟨⟨_, hl⟩, h1, h2, h3⟩

/-- The output's blocks cover its array. -/
theorem covers9 : ((cfg2 a).win 9).Covers := by
  refine ⟨?_, fun β => ?_⟩
  · show ∀ d : Fin 4, 0 < S1x1x384x64.size d
    decide
  have hb0 : (β (0 : Fin 4)).val < 4 := lt_of_lt_of_eq (β (0 : Fin 4)).isLt (by show (4 + 1 - 1) / 1 = 4; decide)
  have hb1 : (β (1 : Fin 4)).val < 49 := lt_of_lt_of_eq (β (1 : Fin 4)).isLt (by show (49 + 1 - 1) / 1 = 49; decide)
  have hb2 : (β (2 : Fin 4)).val < 1 := lt_of_lt_of_eq (β (2 : Fin 4)).isLt (by show (384 + 384 - 1) / 384 = 1; decide)
  have hb3 : (β (3 : Fin 4)).val < 1 := lt_of_lt_of_eq (β (3 : Fin 4)).isLt (by show (64 + 64 - 1) / 64 = 1; decide)
  obtain ⟨t, h1, h2, h3⟩ := key9 ⟨_, hb0⟩ ⟨_, hb1⟩
  refine ⟨t, h1, fun d => ⟨?_, .inl ?_⟩⟩
  · rw [idx2_9]
    fin_cases d
    · exact h2
    · exact h3
    · show 0 = (β (2 : Fin 4)).val; omega
    · show 0 = (β (3 : Fin 4)).val; omega
  · rfl

/-- The stacked projections' columns: the query, key and value pixels of a window. -/
def colq (x : Vec Ideal S4x49x1152x64 .bf16) (b : Fin 4) (r : Fin 49) (c : Fin 384) (p : Fin 64) : EReal := x (ix4 b r ⟨c.val, by omega⟩ p)
def colk (x : Vec Ideal S4x49x1152x64 .bf16) (b : Fin 4) (r : Fin 4 → Fin 49) (c : Fin 384) (k : Fin 256) : EReal :=
  x (ix4 b (r ⟨k.val / 64, by omega⟩) ⟨384 + c.val, by omega⟩ ⟨k.val % 64, by omega⟩)
def colv (x : Vec Ideal S4x49x1152x64 .bf16) (b : Fin 4) (r : Fin 4 → Fin 49) (c : Fin 384) (k : Fin 256) : EReal :=
  x (ix4 b (r ⟨k.val / 64, by omega⟩) ⟨768 + c.val, by omega⟩ ⟨k.val % 64, by omega⟩)

/-- The key blocks of a point are the columns of the windows its row of the table names. -/
theorem blk_k (w : Fin 4 → Fin 49 → Fin 4 → Fin 49) (hw : ∀ b r (n : Fin 4), (word a b r ⟨n.val, by omega⟩).toNat = (w b r n).val)
    (t : Fin (cfg2 a).N) (n : Fin 4) (d : Fin 384) (j : Fin 64) :
    (![iblk a V c 1 t, iblk a V c 2 t, iblk a V c 3 t, iblk a V c 4 t] : Fin 4 → Vec Ideal S1x1x384x64 .bf16) n (ix4 0 0 d j)
      = (V c (Proc.devRef .tc main_v4_0) : Vec Ideal S4x49x1152x64 .bf16) (ix4 (grid2.coords t 0) (w (grid2.coords t 0) (grid2.coords t 1) n) ⟨384 + d.val, by omega⟩ j) := by
  have h0 := hw (grid2.coords t 0) (grid2.coords t 1) n
  fin_cases n
  · show iblk a V c 1 t (ix4 0 0 d j) = _
    have e := idx2_1 a t
    blk_ext [iblk, e, h0]
    exact h0
  · show iblk a V c 2 t (ix4 0 0 d j) = _
    have e := idx2_2 a t
    blk_ext [iblk, e, h0]
    exact h0
  · show iblk a V c 3 t (ix4 0 0 d j) = _
    have e := idx2_3 a t
    blk_ext [iblk, e, h0]
    exact h0
  · show iblk a V c 4 t (ix4 0 0 d j) = _
    have e := idx2_4 a t
    blk_ext [iblk, e, h0]
    exact h0

/-- The value blocks of a point are the columns of the windows its row of the table names. -/
theorem blk_v (w : Fin 4 → Fin 49 → Fin 4 → Fin 49) (hw : ∀ b r (n : Fin 4), (word a b r ⟨n.val, by omega⟩).toNat = (w b r n).val)
    (t : Fin (cfg2 a).N) (n : Fin 4) (d : Fin 384) (j : Fin 64) :
    (![iblk a V c 5 t, iblk a V c 6 t, iblk a V c 7 t, iblk a V c 8 t] : Fin 4 → Vec Ideal S1x1x384x64 .bf16) n (ix4 0 0 d j)
      = (V c (Proc.devRef .tc main_v4_0) : Vec Ideal S4x49x1152x64 .bf16) (ix4 (grid2.coords t 0) (w (grid2.coords t 0) (grid2.coords t 1) n) ⟨768 + d.val, by omega⟩ j) := by
  have h0 := hw (grid2.coords t 0) (grid2.coords t 1) n
  fin_cases n
  · show iblk a V c 5 t (ix4 0 0 d j) = _
    have e := idx2_5 a t
    blk_ext [iblk, e, h0]
    exact h0
  · show iblk a V c 6 t (ix4 0 0 d j) = _
    have e := idx2_6 a t
    blk_ext [iblk, e, h0]
    exact h0
  · show iblk a V c 7 t (ix4 0 0 d j) = _
    have e := idx2_7 a t
    blk_ext [iblk, e, h0]
    exact h0
  · show iblk a V c 8 t (ix4 0 0 d j) = _
    have e := idx2_8 a t
    blk_ext [iblk, e, h0]
    exact h0

/-- The query block of a point. -/
theorem blk_q (t : Fin (cfg2 a).N) (d : Fin 384) (j : Fin 64) :
    iblk a V c 0 t (ix4 0 0 d j)
      = (V c (Proc.devRef .tc main_v4_0) : Vec Ideal S4x49x1152x64 .bf16) (ix4 (grid2.coords t 0) (grid2.coords t 1) ⟨d.val, by omega⟩ j) := by
  have e := idx2_0 a t
  blk_ext [iblk, e]

/-- What a point leaves of the attended windows. -/
theorem out2_9_blk (w : Fin 4 → Fin 49 → Fin 4 → Fin 49) (hw : ∀ b r (n : Fin 4), (word a b r ⟨n.val, by omega⟩).toNat = (w b r n).val)
    (t : Fin (cfg2 a).N) (y : S1x1x384x64.Idx) (b : Fin 4) (r : Fin 49) (d : Fin 384) (p : Fin 64) (hb : b = grid2.coords t 0) (hr : r = grid2.coords t 1)
    (hd : (y 2).val = d.val) (hp : (y 3).val = p.val) :
    out2_9 (iblk a V c 0 t) (iblk a V c 1 t) (iblk a V c 2 t) (iblk a V c 3 t) (iblk a V c 4 t) (iblk a V c 5 t) (iblk a V c 6 t) (iblk a V c 7 t) (iblk a V c 8 t) y
      = attend (colq (V c (Proc.devRef .tc main_v4_0)) b r) (colk (V c (Proc.devRef .tc main_v4_0)) b (w b r)) (colv (V c (Proc.devRef .tc main_v4_0)) b (w b r)) d p := by
  subst hb hr
  refine (out2_9_apply (iblk a V c 0 t) ![iblk a V c 1 t, iblk a V c 2 t, iblk a V c 3 t, iblk a V c 4 t]
    ![iblk a V c 5 t, iblk a V c 6 t, iblk a V c 7 t, iblk a V c 8 t] y d p hd hp).trans ?_
  have hq : (fun d p => iblk a V c 0 t (ix4 0 0 d p)) = colq (V c (Proc.devRef .tc main_v4_0)) (grid2.coords t 0) (grid2.coords t 1) :=
    funext fun d => funext fun j => blk_q V a c t d j
  have hk : side ![iblk a V c 1 t, iblk a V c 2 t, iblk a V c 3 t, iblk a V c 4 t] = colk (V c (Proc.devRef .tc main_v4_0)) (grid2.coords t 0) (w (grid2.coords t 0) (grid2.coords t 1)) :=
    funext fun d => funext fun k => blk_k V a c w hw t _ d _
  have hv : side ![iblk a V c 5 t, iblk a V c 6 t, iblk a V c 7 t, iblk a V c 8 t] = colv (V c (Proc.devRef .tc main_v4_0)) (grid2.coords t 0) (w (grid2.coords t 0) (grid2.coords t 1)) :=
    funext fun d => funext fun k => blk_v V a c w hw t _ d _
  rw [hk, hv]
  exact congrArg (fun q => attend q _ _ d p) hq

/-- The points of the output's blocks. -/
theorem emb9 (t : Fin (cfg2 a).N) (y : S1x1x384x64.Idx) :
    (((cfg2 a).win 9).blk t).view.emb y = (ix4 (grid2.coords t 0) (grid2.coords t 1) (y 2) (y 3) : S4x49x384x64.Idx) := by
  have e := idx2_9 a t
  have h0 : (y 0).val < 1 := (y 0).isLt
  have h1 : (y 1).val < 1 := (y 1).isLt
  blk_ext [e] <;> omega

/-- The attended windows, as one array. -/
def out (x : Vec Ideal S4x49x1152x64 .bf16) (w : Fin 4 → Fin 49 → Fin 4 → Fin 49) : Vec Ideal S4x49x384x64 .bf16 := fun i =>
  attend (colq x (i 0) (i 1)) (colk x (i 0) (w (i 0) (i 1))) (colv x (i 0) (w (i 0) (i 1))) (i 2) (i 3)

/-- The attended array, at an index. -/
theorem out_ix4 (x : Vec Ideal S4x49x1152x64 .bf16) (w : Fin 4 → Fin 49 → Fin 4 → Fin 49) (b : Fin 4) (r : Fin 49) (d : Fin 384) (p : Fin 64) :
    out x w (ix4 b r d p) = attend (colq x b r) (colk x b (w b r)) (colv x b (w b r)) d p := rfl

/-- What a point leaves, at the index its block places it. -/
theorem out2_9_emb (w : Fin 4 → Fin 49 → Fin 4 → Fin 49) (hw : ∀ b r (n : Fin 4), (word a b r ⟨n.val, by omega⟩).toNat = (w b r n).val)
    (t : Fin (cfg2 a).N) (y : S1x1x384x64.Idx) (i : S4x49x384x64.Idx) (hi : i = ix4 (grid2.coords t 0) (grid2.coords t 1) (y 2) (y 3)) :
    out2_9 (iblk a V c 0 t) (iblk a V c 1 t) (iblk a V c 2 t) (iblk a V c 3 t) (iblk a V c 4 t) (iblk a V c 5 t) (iblk a V c 6 t) (iblk a V c 7 t) (iblk a V c 8 t) y
      = out (V c (Proc.devRef .tc main_v4_0)) w i := by
  rw [hi]
  exact out2_9_blk V a c w hw t y (grid2.coords t 0) (grid2.coords t 1) (y 2) (y 3) rfl rfl rfl rfl

attribute [local irreducible] out

/-- The array of attended windows after the run, for a table that names the windows `w`. -/
theorem arr9 (w : Fin 4 → Fin 49 → Fin 4 → Fin 49) (hw : ∀ b r (n : Fin 4), (word a b r ⟨n.val, by omega⟩).toNat = (w b r n).val) :
    (dat V a c).arrAt 9 (cfg2 a).N = out (V c (Proc.devRef .tc main_v4_0)) w := by
  refine (dat V a c).arrAt_eq_of_covers 9 _ (covers9 a) fun t hf y => ?_
  refine Eq.trans (b := out2_9 (iblk a V c 0 t) (iblk a V c 1 t) (iblk a V c 2 t) (iblk a V c 3 t) (iblk a V c 4 t) (iblk a V c 5 t) (iblk a V c 6 t) (iblk a V c 7 t) (iblk a V c 8 t) y) ?_ ?_
  · exact congrFun (after2_9 V a c t) y
  · exact out2_9_emb V a c w hw t y _ (emb9 a t y)

end Cert.KernelIdeal.ValueAttn
-- ==== Proof.Ideal.ValueStage4.lean ====
module

public import proofs.«01_k».proof.Proof.Ideal.Stage4
public import Idealize.ShloMosaic.Lib.Pipeline.ValueKit
public import Idealize.ShloMosaic.Lib.Pointwise
public import Idealize.ShloMosaic.Lib.IdealHost

/-! The last call's array after its run, index by index: the projection of the attended pixel plus its twenty-five taps. -/

@[expose] public section
set_option maxRecDepth 16384
noncomputable section
namespace Cert.KernelIdeal.ValueStage4
open Cert.KernelIdeal.Gen Cert.KernelIdeal.Stage4
open Idealize.ShloMosaic Idealize.ShloMosaic.TcCoe Idealize.ShloMosaic.Tactic
open Idealize.ShloMosaic.Pipeline (Dat)
open Idealize.SL.Sem

section Pure

/-- One tap: a weight times the padded value `di` rows and `dj` columns on. -/
def tap (v : Vec Ideal S12x60x384 .bf16) (u : Vec Ideal S1x1x384 .f32) (r : Fin 8) (x : Fin 56) (k : Fin 384) (di dj : Fin 5) : EReal :=
  u (ix3 0 0 k) * v (ix3 ⟨di.val + r.val, by omega⟩ ⟨dj.val + x.val, by omega⟩ k)

/-- The accumulator after five further taps. -/
theorem pay12_read (v : Vec Ideal S12x60x384 .bf16) (a b : FVec Ideal S8x56x384 .f32) (u4 u5 u6 u7 u8 : Vec Ideal S1x1x384 .f32) (r : Fin 8) (x : Fin 56) (k : Fin 384) :
    k3_pay12 v a b u4 u5 u6 u7 u8 (ix3 r x k) = a (ix3 r x k) + b (ix3 r x k) + tap v u4 r x k 0 4 + tap v u5 r x k 1 0 + tap v u6 r x k 1 1
      + tap v u7 r x k 1 2 + tap v u8 r x k 1 3 := by
  pointwise [k3_pay12]
  simp only [tap, Fin.val_zero, Nat.zero_add]
  rfl

/-- The accumulator after the next five taps. -/
theorem pay13_read (v : Vec Ideal S12x60x384 .bf16) (a : FVec Ideal S8x56x384 .f32) (u9 u10 u11 u12 u13 : Vec Ideal S1x1x384 .f32) (r : Fin 8) (x : Fin 56) (k : Fin 384) :
    k3_pay13 v a u9 u10 u11 u12 u13 (ix3 r x k) = a (ix3 r x k) + tap v u9 r x k 1 4 + tap v u10 r x k 2 0 + tap v u11 r x k 2 1
      + tap v u12 r x k 2 2 + tap v u13 r x k 2 3 := by
  pointwise [k3_pay13]
  simp only [tap, Fin.val_zero, Nat.zero_add]
  rfl

/-- The accumulator after the next six taps. -/
theorem pay16_read (v : Vec Ideal S12x60x384 .bf16) (a : FVec Ideal S8x56x384 .f32) (u14 u15 u16 u17 u18 u19 : Vec Ideal S1x1x384 .f32) (r : Fin 8) (x : Fin 56) (k : Fin 384) :
    k3_pay16 v a (k3_pay14 v) (k3_pay15 u14) u15 u16 u17 u18 u19 (ix3 r x k) = a (ix3 r x k) + tap v u14 r x k 2 4 + tap v u15 r x k 3 0 + tap v u16 r x k 3 1
      + tap v u17 r x k 3 2 + tap v u18 r x k 3 3 + tap v u19 r x k 3 4 := by
  pointwise [k3_pay16, k3_pay14, k3_pay15]
  simp only [tap, Fin.val_zero, Nat.zero_add]
  rfl

/-- The accumulator after the last five taps, as rows of pixels. -/
theorem pay17_read (v : Vec Ideal S12x60x384 .bf16) (a : FVec Ideal S8x56x384 .f32) (u20 u21 u22 u23 u24 : Vec Ideal S1x1x384 .f32) (r : Fin 8) (x : Fin 56) (k : Fin 384)
    (p : Fin 448) (hp : p.val = r.val * 56 + x.val) :
    k3_pay17 v a u20 u21 u22 u23 u24 (Idealize.ShloMosaic.ix2 p k) = a (ix3 r x k) + tap v u20 r x k 4 0 + tap v u21 r x k 4 1 + tap v u22 r x k 4 2
      + tap v u23 r x k 4 3 + tap v u24 r x k 4 4 := by
  have e : p = ⟨r.val * 56 + x.val, by omega⟩ := Fin.ext hp
  rw [e]
  pointwise [k3_pay17]
  simp only [tap, Fin.val_zero, Nat.zero_add]
  rfl

/-- One tap, kept apart. -/
theorem pay11_read (v : Vec Ideal S1x12x60x384 .bf16) (u : Vec Ideal S1x1x384 .f32) (r : Fin 8) (x : Fin 56) (k : Fin 384) :
    k3_pay11 v u (ix3 r x k) = tap (k3_pay9 v) u r x k 0 3 := by
  pointwise [k3_pay11]
  simp only [tap, Fin.val_zero, Nat.zero_add]
  rfl

/-- Seven single blocks, chosen one after the other, are one family. -/
theorem ladder7 (f : Fin 7 → EReal) (n : ℕ) (hn : n < 7) :
    (if n < 1 then f 0 else if n - 1 < 1 then f 1 else if n - 1 - 1 < 1 then f 2 else if n - 1 - 1 - 1 < 1 then f 3
      else if n - 1 - 1 - 1 - 1 < 1 then f 4 else if n - 1 - 1 - 1 - 1 - 1 < 1 then f 5 else f 6) = f ⟨n, hn⟩ := by
  interval_cases n <;> rfl

/-- The attended pixels, put back in image order, plus the first three taps. -/
theorem pay10_read (a : Fin 7 → Vec Ideal S1x1x384x64 .bf16) (v : Vec Ideal S1x12x60x384 .bf16) (u0 u1 u2 : Vec Ideal S1x1x384 .f32) (r : Fin 8) (x : Fin 56) (k : Fin 384) :
    k3_pay10 (k3_pay2 (a 2)) (k3_pay3 (a 3)) (k3_pay4 (a 4)) (k3_pay5 (a 5)) (k3_pay6 (a 6)) (k3_pay7 (a 0)) (k3_pay8 (a 1)) v u0 u1 u2 (ix3 r x k)
      = a ⟨x.val / 8, by omega⟩ (ix4 0 0 k ⟨r.val * 8 + x.val % 8, by omega⟩) + tap (k3_pay9 v) u0 r x k 0 0 + tap (k3_pay9 v) u1 r x k 0 1 + tap (k3_pay9 v) u2 r x k 0 2 := by
  pointwise [k3_pay10, k3_pay2, k3_pay3, k3_pay4, k3_pay5, k3_pay6, k3_pay7, k3_pay8]
  simp only [tap, Fin.val_zero, Nat.zero_add]
  refine congrArg (fun z => z + _ + _ + _) ?_
  exact ladder7 (fun t => a t (ix4 0 0 k ⟨r.val * 8 + x.val % 8, by omega⟩)) (x.val / 8) (by omega)

/-- The output block's arithmetic. -/
theorem pay1_read (v : FVec Ideal S448x384 .bf16) (w : Vec Ideal S384x384 .f32) (b : Vec Ideal S1x384 .f32) (r : Fin 8) (x : Fin 56) (o : Fin 384) :
    k3_pay1 v (k3_pay18 w) (constant S448x384 .f32 0x00000000#32) b (ix4 0 r x o)
      = (∑ k : Fin 384, v (Idealize.ShloMosaic.ix2 ⟨r.val * 56 + x.val, by omega⟩ k) * w (Idealize.ShloMosaic.ix2 k o)) + b (Idealize.ShloMosaic.ix2 0 o) := by
  pointwise [k3_pay1, k3_pay18]

variable (i : grid3.Coords) (x0 : Vec Ideal S1x7x384x64 .bf16) (x1 : Vec Ideal S1x60x60x384 .bf16) (x2 : Vec Ideal S1x25x384 .f32)

/-- A pixel of one strip: its attended value plus the twenty-five taps of the filter. -/
def mix (n : ℕ) (hn : n < 7) (r : Fin 8) (x : Fin 56) (k : Fin 384) : EReal :=
  x0 (ix4 0 ⟨x.val / 8, by omega⟩ k ⟨r.val * 8 + x.val % 8, by omega⟩)
    + ∑ t : Fin 25, x2 (ix3 0 t k) * x1 (ix4 0 ⟨8 * n + (t.val / 5 + r.val), by omega⟩ ⟨t.val % 5 + x.val, by omega⟩ k)

/-- The rows a point loads start at eight times its second coordinate. -/
theorem off1 : ∀ i : grid3.Coords, k3_off1 i = ![0, 8 * (i 1).val, 0, 0] := by decide +kernel

/-- A load of one tap's weights, at an index. -/
theorem ld_w (n : ℕ) (hn : n < 25) (h) (k : Fin 384) : View.ld x2 (Rect.unit (s := S1x25x384) ![0, n, 0] S1x1x384.size h) (ix3 0 0 k) = x2 (ix3 0 ⟨n, hn⟩ k) := by
  refine congrArg x2 (funext fun a => ?_)
  fin_cases a
  · rfl
  · exact Fin.ext (show n + 1 * 0 = n by omega)
  · exact Fin.ext (show 0 + 1 * k.val = k.val by omega)

/-- A load of one window's attended pixels, at an index. -/
theorem ld_a (n : ℕ) (hn : n < 7) (h) (k : Fin 384) (j : Fin 64) : View.ld x0 (Rect.unit (s := S1x7x384x64) ![0, n, 0, 0] S1x1x384x64.size h) (ix4 0 0 k j) = x0 (ix4 0 ⟨n, hn⟩ k j) := by
  refine congrArg x0 (funext fun a => ?_)
  fin_cases a
  · rfl
  · exact Fin.ext (show n + 1 * 0 = n by omega)
  · exact Fin.ext (show 0 + 1 * k.val = k.val by omega)
  · exact Fin.ext (show 0 + 1 * j.val = j.val by omega)

/-- A load of twelve padded rows, at an index. -/
theorem ld_v (off : Fin 4 → ℕ) (n : ℕ) (e : off = ![0, n, 0, 0]) (h) (r : Fin 12) (x : Fin 60) (k : Fin 384) (hn : n + r.val < 60) :
    View.ld x1 (Rect.unit (s := S1x60x60x384) off S1x12x60x384.size h) (ix4 0 r x k) = x1 (ix4 0 ⟨n + r.val, hn⟩ x k) := by
  subst e
  refine congrArg x1 (funext fun a => ?_)
  fin_cases a
  · rfl
  · exact Fin.ext (show n + 1 * r.val = n + r.val by omega)
  · exact Fin.ext (show 0 + 1 * x.val = x.val by omega)
  · exact Fin.ext (show 0 + 1 * k.val = k.val by omega)

/-- The point's twelve padded rows, at an index. -/
theorem rows_read (r : Fin 12) (x : Fin 60) (k : Fin 384) :
    k3_pay9 (View.ld x1 (r3_v i)) (ix3 r x k) = x1 (ix4 0 ⟨8 * (i 1).val + r.val, by have h : (i 1).val < 7 := (i 1).isLt; omega⟩ x k) := by
  have h : (i 1).val < 7 := (i 1).isLt
  have e := ld_v x1 (k3_off1 i) (8 * (i 1).val) (off1 i) (k3_off1_inb i) r x k (by omega)
  refine Eq.trans ?_ e
  pointwise [k3_pay9]

/-- A tap of the strip, off the whole operands. -/
theorem tap_read (n : ℕ) (hn : n < 25) (h) (r : Fin 8) (x : Fin 56) (k : Fin 384) (di dj : Fin 5) (e : n = di.val * 5 + dj.val) :
    tap (rows i x1) (View.ld x2 (Rect.unit (s := S1x25x384) ![0, n, 0] S1x1x384.size h)) r x k di dj
      = x2 (ix3 0 ⟨n, hn⟩ k) * x1 (ix4 0 ⟨8 * (i 1).val + (n / 5 + r.val), by have h : (i 1).val < 7 := (i 1).isLt; omega⟩ ⟨n % 5 + x.val, by omega⟩ k) := by
  have h5 : di.val = n / 5 := by omega
  have h6 : dj.val = n % 5 := by omega
  unfold tap rows
  rw [ld_w x2 n hn h k, rows_read i x1]
  simp only [h5, h6]

/-- The accumulator after three taps, at an index. -/
theorem acc3_read (r : Fin 8) (x : Fin 56) (k : Fin 384) :
    acc3 i x0 x1 x2 (ix3 r x k) = x0 (ix4 0 ⟨x.val / 8, by omega⟩ k ⟨r.val * 8 + x.val % 8, by omega⟩)
      + tap (rows i x1) (View.ld x2 r3_w0) r x k 0 0 + tap (rows i x1) (View.ld x2 r3_w1) r x k 0 1 + tap (rows i x1) (View.ld x2 r3_w2) r x k 0 2 := by
  unfold acc3 rows
  refine (pay10_read ![View.ld x0 r3_a0, View.ld x0 r3_a1, View.ld x0 r3_a2, View.ld x0 r3_a3, View.ld x0 r3_a4, View.ld x0 r3_a5, View.ld x0 r3_a6] _ _ _ _ r x k).trans ?_
  refine congrArg (fun z => z + _ + _ + _) ?_
  have key : ∀ (n : Fin 7) (j : Fin 64), (![View.ld x0 r3_a0, View.ld x0 r3_a1, View.ld x0 r3_a2, View.ld x0 r3_a3, View.ld x0 r3_a4, View.ld x0 r3_a5, View.ld x0 r3_a6] : Fin 7 → Vec Ideal S1x1x384x64 .bf16) n (ix4 0 0 k j)
      = x0 (ix4 0 n k j) := by
    intro n j
    fin_cases n
    · exact ld_a x0 0 (by omega) _ k j
    · exact ld_a x0 1 (by omega) _ k j
    · exact ld_a x0 2 (by omega) _ k j
    · exact ld_a x0 3 (by omega) _ k j
    · exact ld_a x0 4 (by omega) _ k j
    · exact ld_a x0 5 (by omega) _ k j
    · exact ld_a x0 6 (by omega) _ k j
  exact key _ _

/-- The strip before the output projection: the attended pixels plus their taps. -/
theorem acc25_read (r : Fin 8) (x : Fin 56) (k : Fin 384) (p : Fin 448) (hp : p.val = r.val * 56 + x.val) :
    acc25 i x0 x1 x2 (Idealize.ShloMosaic.ix2 p k) = mix x0 x1 x2 (i 1).val (i 1).isLt r x k := by
  unfold acc25
  refine (pay17_read _ _ _ _ _ _ _ r x k _ hp).trans ?_
  unfold acc20
  rw [pay16_read]
  unfold acc14
  rw [pay13_read]
  unfold acc9
  rw [pay12_read, pay11_read, acc3_read]
  unfold mix
  rw [show k3_pay9 (View.ld x1 (r3_v i)) = rows i x1 from rfl]
  have T := fun n hn h di dj e => tap_read i x1 x2 n hn h r x k di dj e
  rw [T 0 (by omega) _ 0 0 rfl, T 1 (by omega) _ 0 1 rfl, T 2 (by omega) _ 0 2 rfl, T 3 (by omega) _ 0 3 rfl, T 4 (by omega) _ 0 4 rfl,
    T 5 (by omega) _ 1 0 rfl, T 6 (by omega) _ 1 1 rfl, T 7 (by omega) _ 1 2 rfl, T 8 (by omega) _ 1 3 rfl, T 9 (by omega) _ 1 4 rfl,
    T 10 (by omega) _ 2 0 rfl, T 11 (by omega) _ 2 1 rfl, T 12 (by omega) _ 2 2 rfl, T 13 (by omega) _ 2 3 rfl, T 14 (by omega) _ 2 4 rfl,
    T 15 (by omega) _ 3 0 rfl, T 16 (by omega) _ 3 1 rfl, T 17 (by omega) _ 3 2 rfl, T 18 (by omega) _ 3 3 rfl, T 19 (by omega) _ 3 4 rfl,
    T 20 (by omega) _ 4 0 rfl, T 21 (by omega) _ 4 1 rfl, T 22 (by omega) _ 4 2 rfl, T 23 (by omega) _ 4 3 rfl, T 24 (by omega) _ 4 4 rfl]
  generalize x0 _ = z
  have S : ∀ (z : EReal) (f : Fin 25 → EReal), z + f 0 + f 1 + f 2 + f 3 + f 4 + f 5 + f 6 + f 7 + f 8 + f 9 + f 10 + f 11 + f 12 + f 13 + f 14 + f 15 + f 16 + f 17 + f 18 + f 19 + f 20 + f 21 + f 22 + f 23 + f 24
      = z + ∑ t : Fin 25, f t := by
    intro z f
    simp only [Fin.sum_univ_castSucc, Fin.sum_univ_zero, zero_add, add_assoc]
    rfl
  exact S z (fun t => x2 (ix3 0 t k) * x1 (ix4 0 ⟨8 * (i 1).val + (t.val / 5 + r.val), by have h : (i 1).val < 7 := (i 1).isLt; omega⟩ ⟨t.val % 5 + x.val, by omega⟩ k))

/-- The output block after the body. -/
theorem out3_5_apply (x3 : Vec Ideal S384x384 .f32) (x4 : Vec Ideal S1x384 .f32) (r : Fin 8) (x : Fin 56) (o : Fin 384) :
    out3_5 i x0 x1 x2 x3 x4 (ix4 0 r x o)
      = (∑ k : Fin 384, mix x0 x1 x2 (i 1).val (i 1).isLt r x k * x3 (Idealize.ShloMosaic.ix2 k o)) + x4 (Idealize.ShloMosaic.ix2 0 o) := by
  unfold out3_5
  frame_out
  refine (pay1_read _ _ _ r x o).trans ?_
  refine congrArg (fun z => z + x4 (Idealize.ShloMosaic.ix2 0 o)) (Finset.sum_congr rfl fun k _ => ?_)
  exact congrArg (fun z => z * x3 (Idealize.ShloMosaic.ix2 k o)) (acc25_read i x0 x1 x2 r x k _ rfl)

end Pure

variable (V : Dev nD → Valuation τ sig (Elt Ideal)) (c : Dev nD)

/-- Where each window sits at a point. -/
theorem idx3 : ∀ t : Fin cfg3.N, win3_0.index t = ![(grid3.coords t 0).val, (grid3.coords t 1).val, 0, 0]
    ∧ win3_1.index t = ![(grid3.coords t 0).val, 0, 0, 0] ∧ win3_2.index t = ![0, 0, 0] ∧ win3_3.index t = ![0, 0] ∧ win3_4.index t = ![0, 0]
    ∧ win3_5.index t = ![(grid3.coords t 0).val, (grid3.coords t 1).val, 0, 0] := by decide +kernel

/-- A pixel of the image: its attended value plus the twenty-five taps of the filter. -/
def full (y : Vec Ideal S4x49x384x64 .bf16) (v : Vec Ideal S4x60x60x384 .bf16) (u : Vec Ideal S1x25x384 .f32) (b : Fin 4) (h x : Fin 56) (k : Fin 384) : EReal :=
  y (ix4 b ⟨h.val / 8 * 7 + x.val / 8, by omega⟩ k ⟨h.val % 8 * 8 + x.val % 8, by omega⟩)
    + ∑ t : Fin 25, u (ix3 0 t k) * v (ix4 b ⟨t.val / 5 + h.val, by omega⟩ ⟨t.val % 5 + x.val, by omega⟩ k)

/-- The output, as one array. -/
def out (y : Vec Ideal S4x49x384x64 .bf16) (v : Vec Ideal S4x60x60x384 .bf16) (u : Vec Ideal S1x25x384 .f32) (w : Vec Ideal S384x384 .f32) (b0 : Vec Ideal S1x384 .f32) :
    Vec Ideal S4x56x56x384 .f32 := fun i =>
  (∑ k : Fin 384, full y v u (i 0) (i 1) (i 2) k * w (Idealize.ShloMosaic.ix2 k (i 3))) + b0 (Idealize.ShloMosaic.ix2 0 (i 3))

/-- A pixel computed from a point's blocks is the pixel of the whole arrays. -/
theorem mix_blk (t : Fin cfg3.N) (r : Fin 8) (x : Fin 56) (k : Fin 384) (n : ℕ) (hn : n < 7) (e : n = (grid3.coords t 1).val) :
    mix (iblk V c 0 t) (iblk V c 1 t) (iblk V c 2 t) n hn r x k
      = full (V c (Proc.devRef .tc main_v7)) (V c (Proc.devRef .tc main_v8)) (V c (Proc.devRef .tc main_v10)) (grid3.coords t 0) ⟨8 * n + r.val, by omega⟩ x k := by
  obtain ⟨e0, e1, e2, -⟩ := idx3 t
  unfold mix full
  congr 1
  · blk_ext [iblk, e0, e1, e2] <;> simp only <;> omega
  · refine Finset.sum_congr rfl fun s _ => ?_
    congr 1 <;> blk_ext [iblk, e0, e1, e2] <;> simp only <;> omega

/-- The result array, at an index. -/
theorem out_ix4 (y : Vec Ideal S4x49x384x64 .bf16) (v : Vec Ideal S4x60x60x384 .bf16) (u : Vec Ideal S1x25x384 .f32) (w : Vec Ideal S384x384 .f32) (b0 : Vec Ideal S1x384 .f32)
    (b : Fin 4) (h x : Fin 56) (o : Fin 384) :
    out y v u w b0 (ix4 b h x o) = (∑ k : Fin 384, full y v u b h x k * w (Idealize.ShloMosaic.ix2 k o)) + b0 (Idealize.ShloMosaic.ix2 0 o) := rfl

/-- What a point leaves of the output, at the index its block places it. -/
theorem out3_5_blk (t : Fin cfg3.N) (r : Fin 8) (x : Fin 56) (o : Fin 384) :
    out3_5 (grid3.coords t) (iblk V c 0 t) (iblk V c 1 t) (iblk V c 2 t) (iblk V c 3 t) (iblk V c 4 t) (ix4 0 r x o)
      = out (V c (Proc.devRef .tc main_v7)) (V c (Proc.devRef .tc main_v8)) (V c (Proc.devRef .tc main_v10)) (V c (Proc.devRef .tc main_v12)) (V c (Proc.devRef .tc main_v13))
        (ix4 (grid3.coords t 0) ⟨8 * (grid3.coords t 1).val + r.val, by have h : (grid3.coords t 1).val < 7 := (grid3.coords t 1).isLt; omega⟩ x o) := by
  refine (out3_5_apply _ _ _ _ _ _ r x o).trans (Eq.trans ?_ (out_ix4 _ _ _ _ _ (grid3.coords t 0) _ x o).symm)
  obtain ⟨-, -, -, e3, e4, -⟩ := idx3 t
  have h3 : ∀ k, iblk V c 3 t (Idealize.ShloMosaic.ix2 k o) = (V c (Proc.devRef .tc main_v12) : Vec Ideal S384x384 .f32) (Idealize.ShloMosaic.ix2 k o) := fun k => by
    blk_ext [iblk, e3]
  have h4 : iblk V c 4 t (Idealize.ShloMosaic.ix2 0 o) = (V c (Proc.devRef .tc main_v13) : Vec Ideal S1x384 .f32) (Idealize.ShloMosaic.ix2 0 o) := by
    blk_ext [iblk, e4]
  refine congrArg₂ (· + ·) (Finset.sum_congr rfl fun k _ => ?_) h4
  exact congrArg₂ (· * ·) (mix_blk V c t r x k _ _ rfl) (h3 k)

/-- Where an output block's index lies in the array. -/
theorem emb5 (t : Fin cfg3.N) (y : S1x8x56x384.Idx) : ((cfg3.win 5).blk t).view.emb y
    = (ix4 (grid3.coords t 0) ⟨8 * (grid3.coords t 1).val + (y 1).val, by have h : (grid3.coords t 1).val < 7 := (grid3.coords t 1).isLt; have h1 : (y 1).val < 8 := (y 1).isLt; omega⟩ (y 2) (y 3) : S4x56x56x384.Idx) := by
  obtain ⟨-, -, -, -, -, e⟩ := idx3 t
  have h0 : (y 0).val < 1 := (y 0).isLt
  blk_ext [e] <;> omega

/-- What a point leaves, at the index its block places it. -/
theorem out3_5_emb (t : Fin cfg3.N) (y : S1x8x56x384.Idx) (i : S4x56x56x384.Idx)
    (hi : i = ix4 (grid3.coords t 0) ⟨8 * (grid3.coords t 1).val + (y 1).val, by have h : (grid3.coords t 1).val < 7 := (grid3.coords t 1).isLt; have h1 : (y 1).val < 8 := (y 1).isLt; omega⟩ (y 2) (y 3)) :
    out3_5 (grid3.coords t) (iblk V c 0 t) (iblk V c 1 t) (iblk V c 2 t) (iblk V c 3 t) (iblk V c 4 t) y
      = out (V c (Proc.devRef .tc main_v7)) (V c (Proc.devRef .tc main_v8)) (V c (Proc.devRef .tc main_v10)) (V c (Proc.devRef .tc main_v12)) (V c (Proc.devRef .tc main_v13)) i := by
  have e : y = ix4 0 (y 1) (y 2) (y 3) := by
    have h0 : (y 0).val < 1 := (y 0).isLt
    funext a; fin_cases a
    · apply Fin.ext; show (y 0).val = 0; omega
    · rfl
    · rfl
    · rfl
  rw [hi]
  exact (congrArg _ e).trans (out3_5_blk V c t (y 1) (y 2) (y 3))

attribute [local irreducible] out

/-- The output after the run. -/
theorem arr5 : (dat V c).arrAt 5 cfg3.N
    = out (V c (Proc.devRef .tc main_v7)) (V c (Proc.devRef .tc main_v8)) (V c (Proc.devRef .tc main_v10)) (V c (Proc.devRef .tc main_v12)) (V c (Proc.devRef .tc main_v13)) := by
  refine (dat V c).arrAt_eq_of_covers 5 _ (by decide +kernel) fun t hf y => ?_
  refine Eq.trans (b := out3_5 (grid3.coords t) (iblk V c 0 t) (iblk V c 1 t) (iblk V c 2 t) (iblk V c 3 t) (iblk V c 4 t) y) ?_ ?_
  · exact congrFun (after0_5 V c t) y
  · exact out3_5_emb V c t y _ (emb5 t y)

end Cert.KernelIdeal.ValueStage4
-- ==== Proof.Ideal.Spec.lean ====
module

public import proofs.«01_k».proof.Proof.Ideal.Value1
public import proofs.«01_k».proof.Proof.Ideal.ValueRoute
public import proofs.«01_k».proof.Proof.Ideal.ValueAttn
public import proofs.«01_k».proof.Proof.Ideal.ValueStage4
public import proofs.«01_k».proof.Proof.Ideal.TopK

/-! What the kernel computes, over one image's projections: window means, window similarities, the four chosen windows, the attended pixels, the padded values. -/

@[expose] public section
noncomputable section
namespace Cert.Spec
open Idealize.ShloMosaic Cert.KernelIdeal Cert.KernelIdeal.Gen
open Cert.TopK (order)

/-- The projection of a pixel on channel `o`, off the program's own arguments. -/
def projA (x : Vec Ideal S4x384x56x56 .f32) (w : Vec Ideal S1152x384x1x1 .f32) (b0 : Vec Ideal S1152 .f32) (b : Fin 4) (o : Fin 1152) (h v : Fin 56) : EReal :=
  (∑ k : Fin 384, x (ix4 b k h v) * w (ix4 o k 0 0)) + b0 (ix1 o)

variable (P : Fin 1152 → Fin 56 → Fin 56 → EReal)

/-- The mean of channel `o` over window `(i, j)`. -/
def mean (o : Fin 1152) (i j : Fin 7) : EReal :=
  Ideal.div (∑ a : Fin 8, ∑ e : Fin 8, P o ⟨8 * i.val + a.val, by omega⟩ ⟨8 * j.val + e.val, by omega⟩) (Ideal.ofBits .f32 0x42800000#32)

/-- The similarity of window `r`'s mean query and window `s`'s mean key. -/
def simi (r s : Fin 49) : EReal :=
  ∑ k : Fin 384, mean P ⟨k.val, by omega⟩ ⟨r.val / 7, by omega⟩ ⟨r.val % 7, by omega⟩ * mean P ⟨384 + k.val, by omega⟩ ⟨s.val / 7, by omega⟩ ⟨s.val % 7, by omega⟩

/-- The `n`-th most similar window. -/
def region (r : Fin 49) (n : Fin 4) : Fin 49 := order (simi P r) ⟨n.val, by omega⟩

/-- Channel `o` of pixel `p` of window `r`. -/
def pix (o : Fin 1152) (r : Fin 49) (p : Fin 64) : EReal :=
  P o ⟨8 * (r.val / 7) + p.val / 8, by omega⟩ ⟨8 * (r.val % 7) + p.val % 8, by omega⟩

def qs (r : Fin 49) (c : Fin 384) (p : Fin 64) : EReal := pix P ⟨c.val, by omega⟩ r p
def ks (r : Fin 49) (c : Fin 384) (k : Fin 256) : EReal := pix P ⟨384 + c.val, by omega⟩ (region P r ⟨k.val / 64, by omega⟩) ⟨k.val % 64, by omega⟩
def vs (r : Fin 49) (c : Fin 384) (k : Fin 256) : EReal := pix P ⟨768 + c.val, by omega⟩ (region P r ⟨k.val / 64, by omega⟩) ⟨k.val % 64, by omega⟩

/-- Channel `c` of the padded values. -/
def vpad (c : Fin 384) (h x : Fin 60) : EReal :=
  if hh : 2 ≤ h.val ∧ h.val < 58 ∧ 2 ≤ x.val ∧ x.val < 58 then P ⟨768 + c.val, by omega⟩ ⟨h.val - 2, by omega⟩ ⟨x.val - 2, by omega⟩ else 0

/-- A pixel before the output projection, for an attention `A` and the filter's weights `u`. -/
def before (A : Fin 49 → Fin 384 → Fin 64 → EReal) (u : Fin 384 → Fin 25 → EReal) (k : Fin 384) (h x : Fin 56) : EReal :=
  A ⟨h.val / 8 * 7 + x.val / 8, by omega⟩ k ⟨h.val % 8 * 8 + x.val % 8, by omega⟩
    + ∑ t : Fin 25, u k t * vpad P k ⟨t.val / 5 + h.val, by omega⟩ ⟨t.val % 5 + x.val, by omega⟩

/-- The filter's weights, off the program's own argument. -/
def wts (a : Vec Ideal S384x1x5x5 .f32) (k : Fin 384) (t : Fin 25) : EReal := a (ix4 k 0 ⟨t.val / 5, by omega⟩ ⟨t.val % 5, by omega⟩)

/-- The result at `(b, o, h, x)`, for an attention `A`. -/
def result (A : Fin 49 → Fin 384 → Fin 64 → EReal) (u : Fin 384 → Fin 25 → EReal) (w : Vec Ideal S384x384x1x1 .f32) (b0 : Vec Ideal S384 .f32) (o : Fin 384) (h x : Fin 56) : EReal :=
  (∑ k : Fin 384, before P A u k h x * w (ix4 o k 0 0)) + b0 (ix1 o)

end Cert.Spec
-- ==== Proof.Ideal.ValueRef.lean ====
module

public import proofs.«01_k».proof.Proof.Ideal.RefReads
public import proofs.«01_k».proof.Proof.Ideal.RefChoice
public import proofs.«01_k».proof.Proof.Ideal.Spec

/-! What the reference computes, over one image's projections. -/

@[expose] public section
set_option maxRecDepth 16384
noncomputable section
namespace Cert.ReferenceIdeal.ValueRef
open Cert.ReferenceIdeal Cert.ReferenceIdeal.Gen Cert.ReferenceIdeal.Value Cert.ReferenceIdeal.RefReads Cert.ReferenceIdeal.RefChoice
open Idealize.ShloMosaic Idealize.ShloMosaic.TcCoe Idealize.ShloMosaic.Tactic

variable (V0 : Valuation τ sig (Elt Ideal))

/-- One image's projections, off the arguments. -/
def P (b : Fin 4) : Fin 1152 → Fin 56 → Fin 56 → EReal :=
  Spec.projA (V0 (Proc.devRef .tc main_arg0)) (V0 (Proc.devRef .tc main_arg1)) (V0 (Proc.devRef .tc main_arg2)) b

/-- The reference's projection, at an index. -/
theorem v5_at (b : Fin 4) (o : Fin 1152) (h v : Fin 56) : (res_main_v5 V0 : Vec Ideal S4x1152x56x56 .f32) (ix4 b o h v) = P V0 b o h v := by
  refine (proj_read (V0 (Proc.devRef .tc main_arg1)) (V0 (Proc.devRef .tc main_arg0)) (V0 (Proc.devRef .tc main_arg2)) b o h v).trans ?_
  unfold P Spec.projA
  exact congrArg₂ (fun y z : EReal => y + z) (Finset.sum_congr rfl fun k _ => mul_comm _ _) rfl
/-- Its queries, at an index. -/
theorem v6_at (b : Fin 4) (k : Fin 384) (h v : Fin 56) : (res_main_v6 V0 : Vec Ideal S4x384x56x56 .f32) (ix4 b k h v) = P V0 b ⟨k.val, by omega⟩ h v :=
  (slice0_read (res_main_v5 V0) b k h v).trans (v5_at V0 b _ h v)
/-- Its keys, at an index. -/
theorem v7_at (b : Fin 4) (k : Fin 384) (h v : Fin 56) : (res_main_v7 V0 : Vec Ideal S4x384x56x56 .f32) (ix4 b k h v) = P V0 b ⟨384 + k.val, by omega⟩ h v :=
  (slice384_read (res_main_v5 V0) b k h v).trans (v5_at V0 b _ h v)
/-- Its values, at an index. -/
theorem v8_at (b : Fin 4) (k : Fin 384) (h v : Fin 56) : (res_main_v8 V0 : Vec Ideal S4x384x56x56 .f32) (ix4 b k h v) = P V0 b ⟨768 + k.val, by omega⟩ h v :=
  (slice768_read (res_main_v5 V0) b k h v).trans (v5_at V0 b _ h v)

/-! ## The choice of windows -/

/-- The queries' window mean is the specification's. -/
theorem mean6 (b : Fin 4) (k : Fin 384) (i j : Fin 7) : wmean (res_main_v6 V0) b k i j = Spec.mean (P V0 b) ⟨k.val, by omega⟩ i j := by
  unfold wmean Spec.mean
  exact congrArg (fun s => Ideal.div s (Ideal.ofBits .f32 0x42800000#32)) (Finset.sum_congr rfl fun a _ => Finset.sum_congr rfl fun e _ => v6_at V0 b k _ _)
/-- The keys' window mean is the specification's. -/
theorem mean7 (b : Fin 4) (k : Fin 384) (i j : Fin 7) : wmean (res_main_v7 V0) b k i j = Spec.mean (P V0 b) ⟨384 + k.val, by omega⟩ i j := by
  unfold wmean Spec.mean
  exact congrArg (fun s => Ideal.div s (Ideal.ofBits .f32 0x42800000#32)) (Finset.sum_congr rfl fun a _ => Finset.sum_congr rfl fun e _ => v7_at V0 b k _ _)

/-- The reference's similarities are the specification's. -/
theorem v21_at (b : Fin 4) (r s : Fin 49) : (res_main_v21 V0 : Vec Ideal S4x49x49 .f32) (ix3 b r s) = Spec.simi (P V0 b) r s := by
  refine (sim_read _ _ b r s).trans ?_
  unfold Spec.simi
  exact Finset.sum_congr rfl fun k _ => congrArg₂ (fun y z : EReal => y * z) ((wmean_read (res_main_v6 V0) b k _ _).trans (mean6 V0 b k _ _)) ((wmean_read (res_main_v7 V0) b k _ _).trans (mean7 V0 b k _ _))

/-- The reference's choice of windows is the specification's. -/
theorem indices_at (b : Fin 4) (r : Fin 49) (n : Fin 4) : (res_main_indices V0 : IVec S4x49x4 32) (ix3 b r n) = BitVec.ofNat 32 (Spec.region (P V0 b) r n).val := by
  refine (topk_read (res_main_v21 V0) b r n).trans ?_
  unfold Spec.region
  exact congrArg (fun f : Fin 49 → EReal => BitVec.ofNat 32 (Cert.TopK.order f ⟨n.val, Nat.lt_trans n.isLt (by decide)⟩).val) (funext fun s => v21_at V0 b r s)

/-! ## Attention -/

/-- Channel `d` of head `h`. -/
def ch (h : Fin 12) (d : Fin 32) : Fin 384 := ⟨h.val * 32 + d.val, by omega⟩

/-- The four chosen windows of a map, grouped by head, at a position. -/
theorem chosen (x : Vec Ideal S4x384x56x56 .f32) (b : Fin 4) (h : Fin 12) (r : Fin 49) (j : Fin 256) (d : Fin 32) :
    shapeCast S4x12x49x256x32 (Host.gather gather_S4x12x49x64x32_S4x49x4x1_S4x12x49x4x64x32_145_2_0_0_2_3_11216432 (shapeCast S4x12x49x64x32 (transpose S4x12x7x7x8x8x32 [0, 1, 3, 5, 4, 6, 2] (shapeCast S4x12x32x7x8x7x8 x shapeCasts_S4x384x56x56_S4x12x32x7x8x7x8) transposes_S4x12x32x7x8x7x8_S4x12x7x7x8x8x32_0_1_3_5_4_6_2) shapeCasts_S4x12x7x7x8x8x32_S4x12x49x64x32) (broadcastInDim S4x49x4x1 ![0, 1, 2] bcast_S4x49x4_S4x49x4x1_0_1_2 (res_main_indices V0 : IVec S4x49x4 32))) shapeCasts_S4x12x49x4x64x32_S4x12x49x256x32 (ix5 b h r j d)
      = x (ix4 b (ch h d) ⟨8 * ((Spec.region (P V0 b) r ⟨j.val / 64, by omega⟩).val / 7) + j.val % 64 / 8, by omega⟩
          ⟨8 * ((Spec.region (P V0 b) r ⟨j.val / 64, by omega⟩).val % 7) + j.val % 64 % 8, by omega⟩) := by
  refine (four_read _ b h r j d).trans ?_
  refine (gather_read _ (res_main_indices V0) b h r _ _ d _ (indices_at V0 b r _)).trans ?_
  exact regroup_read x b h _ _ d

/-- The reference's score of query pixel `p` against key `j`, in head `h`. -/
def L (b : Fin 4) (h : Fin 12) (r : Fin 49) (p : Fin 64) (j : Fin 256) : EReal :=
  ∑ d : Fin 32, Ideal.div (Spec.qs (P V0 b) r (ch h d) p) (Ideal.sqrt (Ideal.ofBits .f32 0x43C00000#32)) * Spec.ks (P V0 b) r (ch h d) j

/-- The reference's scores, at an index. -/
theorem v38_at (b : Fin 4) (h : Fin 12) (r : Fin 49) (p : Fin 64) (j : Fin 256) : (res_main_v38 V0 : Vec Ideal S4x12x49x64x256 .f32) (ix5 b h r p j) = L V0 b h r p j := by
  refine (score_read _ _ b h r p j).trans ?_
  unfold L
  refine Finset.sum_congr rfl fun d _ => congrArg₂ (fun y z : EReal => y * z) (congrArg (fun y : EReal => Ideal.div y (Ideal.sqrt (Ideal.ofBits .f32 0x43C00000#32))) ?_) ?_
  · exact (regroup_read (res_main_v6 V0) b h r p d).trans (v6_at V0 b _ _ _)
  · exact (chosen V0 (res_main_v7 V0) b h r j d).trans (v7_at V0 b _ _ _)

/-- The largest score of a row. -/
def top (b : Fin 4) (h : Fin 12) (r : Fin 49) (p : Fin 64) : EReal :=
  max (Ideal.ofBits .f32 0xFF800000#32) (Finset.fold max (Ideal.ofBits .f32 0xFF800000#32) (L V0 b h r p) Finset.univ)

/-- The reference's exponentials, at an index. -/
theorem v45_at (b : Fin 4) (h : Fin 12) (r : Fin 49) (p : Fin 64) (j : Fin 256) :
    (res_main_v45 V0 : Vec Ideal S4x12x49x64x256 .f32) (ix5 b h r p j) = Ideal.exp (L V0 b h r p j - top V0 b h r p) := by
  refine (exp_read (res_main_v38 V0) _ b h r p j).trans ?_
  refine congrArg₂ (fun y z : EReal => Ideal.exp (y - z)) (v38_at V0 b h r p j) ((max_read (res_main_v38 V0) b h r p).trans ?_)
  unfold top
  exact congrArg (fun f : Fin 256 → EReal => max (Ideal.ofBits .f32 0xFF800000#32) (Finset.fold max (Ideal.ofBits .f32 0xFF800000#32) f Finset.univ)) (funext fun i => v38_at V0 b h r p i)

/-- The reference's attended pixel, channel `c`. -/
def attR (b : Fin 4) (r : Fin 49) (c : Fin 384) (p : Fin 64) : EReal :=
  ∑ j : Fin 256, Ideal.div (Ideal.exp (L V0 b ⟨c.val / 32, by omega⟩ r p j - top V0 b ⟨c.val / 32, by omega⟩ r p))
    (∑ i : Fin 256, Ideal.exp (L V0 b ⟨c.val / 32, by omega⟩ r p i - top V0 b ⟨c.val / 32, by omega⟩ r p)) * Spec.vs (P V0 b) r c j

/-- The attention output regrouped into a map, at an index. -/
theorem att_at (b : Fin 4) (c : Fin 384) (h x : Fin 56) :
    shapeCast S4x384x56x56 (transpose S4x12x32x7x8x7x8 [0, 1, 6, 2, 4, 3, 5] (shapeCast S4x12x7x7x8x8x32 (Host.dotGeneral (F := Ideal) (φ₁ := .f32) (φ₂ := .f32) dot_S4x12x49x64x256_S4x12x49x256x32_S4x12x49x64x32_4_3_3_4_012_012 none (Host.divf (F := Ideal) (φ := .f32) (res_main_v45 V0) (broadcastInDim S4x12x49x64x256 ![0, 1, 2, 3, 4] bcast_S4x12x49x64x1_S4x12x49x64x256_0_1_2_3_4 (broadcastInDim S4x12x49x64x1 ![0, 1, 2, 3] bcast_S4x12x49x64_S4x12x49x64x1_0_1_2_3 (Host.reduceAdd (F := Ideal) (φ := .f32) (res_main_v45 V0) (constant S_ .f32 0x00000000#32) reducesTo_S4x12x49x64x256_S4x12x49x64_d4 h_S_)))) (shapeCast S4x12x49x256x32 (Host.gather gather_S4x12x49x64x32_S4x49x4x1_S4x12x49x4x64x32_145_2_0_0_2_3_11216432 (shapeCast S4x12x49x64x32 (transpose S4x12x7x7x8x8x32 [0, 1, 3, 5, 4, 6, 2] (shapeCast S4x12x32x7x8x7x8 (res_main_v8 V0 : Vec Ideal S4x384x56x56 .f32) shapeCasts_S4x384x56x56_S4x12x32x7x8x7x8) transposes_S4x12x32x7x8x7x8_S4x12x7x7x8x8x32_0_1_3_5_4_6_2) shapeCasts_S4x12x7x7x8x8x32_S4x12x49x64x32) (broadcastInDim S4x49x4x1 ![0, 1, 2] bcast_S4x49x4_S4x49x4x1_0_1_2 (res_main_indices V0 : IVec S4x49x4 32))) shapeCasts_S4x12x49x4x64x32_S4x12x49x256x32)) shapeCasts_S4x12x49x64x32_S4x12x7x7x8x8x32) transposes_S4x12x7x7x8x8x32_S4x12x32x7x8x7x8_0_1_6_2_4_3_5) shapeCasts_S4x12x32x7x8x7x8_S4x384x56x56 (ix4 b c h x)
      = attR V0 b ⟨h.val / 8 * 7 + x.val / 8, by omega⟩ c ⟨h.val % 8 * 8 + x.val % 8, by omega⟩ := by
  refine (ungroup_read _ b c h x).trans ((attend_read (res_main_v45 V0) _ b _ _ _ _).trans ?_)
  unfold attR
  have hc : ch ⟨c.val / 32, by omega⟩ ⟨c.val % 32, by omega⟩ = c := Fin.ext (by simp only [ch]; omega)
  refine Finset.sum_congr rfl fun j _ => congrArg₂ (fun y z : EReal => y * z) (congrArg₂ Ideal.div (v45_at V0 b _ _ _ j) (Finset.sum_congr rfl fun i _ => v45_at V0 b _ _ _ i)) ?_
  refine (chosen V0 (res_main_v8 V0) b _ _ j _).trans ((v8_at V0 b _ _ _).trans ?_)
  rw [hc]
  rfl

/-! ## The depthwise filter and the result -/

/-- The reference's padded values, at an index. -/
theorem v54_at (b : Fin 4) (k : Fin 384) (h w : Fin 60) : (res_main_v54 V0 : Vec Ideal S4x384x60x60 .f32) (ix4 b k h w) = Spec.vpad (P V0 b) k h w := by
  refine (pad_read (res_main_v8 V0) b k h w).trans ?_
  unfold Spec.vpad
  exact dite_congr rfl (fun _ => v8_at V0 b k _ _) fun _ => rfl
/-- The filter's weights and its bias, off the arguments. -/
def w3 (k : Fin 384) (i j : Fin 5) : EReal := (V0 (Proc.devRef .tc main_arg3) : Vec Ideal S384x1x5x5 .f32) (ix4 k 0 i j)
def b4 (k : Fin 384) : EReal := (V0 (Proc.devRef .tc main_arg4) : Vec Ideal S384 .f32) (ix1 k)

/-- The reference's filter weights, at an index. -/
theorem v55_at (k : Fin 384) (i j : Fin 5) : (res_main_v55 V0 : Vec Ideal S1x384x5x5 .f32) (ix4 0 k i j) = w3 V0 k i j :=
  wts_read (V0 (Proc.devRef .tc main_arg3)) k i j

/-- One tap: the padded value times its weight. -/
theorem tap_at (b : Fin 4) (k : Fin 384) (h x : Fin 56) (di dj : Fin 5) : tap (res_main_v54 V0) (res_main_v55 V0) b k h x di dj
    = w3 V0 k di dj * Spec.vpad (P V0 b) k ⟨di.val + h.val, by omega⟩ ⟨dj.val + x.val, by omega⟩ := by
  unfold tap
  exact (congrArg₂ (fun y z : EReal => y * z) (v54_at V0 b k _ _) (v55_at V0 k di dj)).trans (mul_comm _ _)

/-- The filter's output at a pixel: twenty-five taps in a row, from zero. -/
theorem taps_at (b : Fin 4) (k : Fin 384) (h x : Fin 56) :
    (∑ t : Fin 25, tap (res_main_v54 V0) (res_main_v55 V0) b k h x ⟨t.val / 5, by omega⟩ ⟨t.val % 5, by omega⟩)
      = ∑ t : Fin 25, Spec.wts (V0 (Proc.devRef .tc main_arg3)) k t * Spec.vpad (P V0 b) k ⟨t.val / 5 + h.val, by omega⟩ ⟨t.val % 5 + x.val, by omega⟩ := by
  unfold Spec.wts
  exact Finset.sum_congr rfl fun t _ => tap_at V0 b k h x _ _

/-- A sum of two arrays at an index. -/
theorem addf_at (y z : Vec Ideal S4x384x56x56 .f32) (i : S4x384x56x56.Idx) : addf (F := Ideal) (φ := .f32) y z i = y i + z i := rfl

/-- The reference's partial sum of taps, at an index. -/
theorem v121_at (b : Fin 4) (k : Fin 384) (h x : Fin 56) : ∀ y : EReal, y = (res_main_v121 V0 : Vec Ideal S4x384x56x56 .f32) (ix4 b k h x) → y = Ideal.ofBits .f32 0x00000000#32 + tap (res_main_v54 V0) (res_main_v55 V0) b k h x 0 0 + tap (res_main_v54 V0) (res_main_v55 V0) b k h x 0 1 + tap (res_main_v54 V0) (res_main_v55 V0) b k h x 0 2 + tap (res_main_v54 V0) (res_main_v55 V0) b k h x 0 3 + tap (res_main_v54 V0) (res_main_v55 V0) b k h x 0 4 + tap (res_main_v54 V0) (res_main_v55 V0) b k h x 1 0 + tap (res_main_v54 V0) (res_main_v55 V0) b k h x 1 1 + tap (res_main_v54 V0) (res_main_v55 V0) b k h x 1 2 + tap (res_main_v54 V0) (res_main_v55 V0) b k h x 1 3 + tap (res_main_v54 V0) (res_main_v55 V0) b k h x 1 4 + tap (res_main_v54 V0) (res_main_v55 V0) b k h x 2 0 + tap (res_main_v54 V0) (res_main_v55 V0) b k h x 2 1 + tap (res_main_v54 V0) (res_main_v55 V0) b k h x 2 2 := by
  rintro _ rfl
  exact taps_lo (res_main_v54 V0) (res_main_v55 V0) b k h x

/-- A pixel before the output projection, for a filter bias of zero. -/
theorem v185_at (b : Fin 4) (k : Fin 384) (h x : Fin 56) (hb : b4 V0 k = 0) :
    (res_main_v185 V0 : Vec Ideal S4x384x56x56 .f32) (ix4 b k h x)
      = Spec.before (P V0 b) (attR V0 b) (Spec.wts (V0 (Proc.devRef .tc main_arg3))) k h x := by
  refine (addf_at _ _ (ix4 b k h x)).trans (congrArg₂ (fun y z : EReal => y + z) (att_at V0 b k h x) ?_)
  refine Eq.trans ?_ (taps_at V0 b k h x)
  refine taps_join (tap (res_main_v54 V0) (res_main_v55 V0) b k h x) _ _ (b4 V0 k) (v121_at V0 b k h x _ rfl) ?_ hb
  exact taps_hi (res_main_v121 V0) (res_main_v54 V0) (res_main_v55 V0) (V0 (Proc.devRef .tc main_arg4)) b k h x

/-- The reference's result at an index, for a filter bias of zero. -/
theorem result_at (b : Fin 4) (o : Fin 384) (h v : Fin 56) (hb : ∀ k, b4 V0 k = 0) :
    addf (F := Ideal) (φ := .f32) (transpose S4x384x56x56 [1, 0, 2, 3] (Host.dotGeneral (F := Ideal) (φ₁ := .f32) (φ₂ := .f32) dot_S384x384_S4x384x56x56_S384x4x56x56_1_1_0_023_n_n none (shapeCast S384x384 (V0 (Proc.devRef .tc main_arg5) : Vec Ideal S384x384x1x1 .f32) shapeCasts_S384x384x1x1_S384x384) (res_main_v185 V0)) transposes_S384x4x56x56_S4x384x56x56_1_0_2_3) (broadcastInDim S4x384x56x56 ![0, 1, 2, 3] bcast_S1x384x1x1_S4x384x56x56_0_1_2_3 (broadcastInDim S1x384x1x1 ![1] bcast_S384_S1x384x1x1_1 (V0 (Proc.devRef .tc main_arg6) : Vec Ideal S384 .f32))) (ix4 b o h v)
      = Spec.result (P V0 b) (attR V0 b) (Spec.wts (V0 (Proc.devRef .tc main_arg3))) (V0 (Proc.devRef .tc main_arg5)) (V0 (Proc.devRef .tc main_arg6)) o h v := by
  refine (out_read _ (res_main_v185 V0) _ b o h v).trans ?_
  unfold Spec.result
  exact congrArg₂ (fun y z : EReal => y + z) (Finset.sum_congr rfl fun k _ => (mul_comm _ _).trans (congrArg (fun y : EReal => y * _) (v185_at V0 b k h v (hb k)))) rfl

end Cert.ReferenceIdeal.ValueRef
-- ==== Proof.Ideal.ValueKernel.lean ====
module

public import proofs.«01_k».proof.Proof.Ideal.Spec
public import proofs.«01_k».proof.Proof.Ideal.Frames

/-! The whole program's result, index by index, off its arguments. -/

@[expose] public section
set_option maxRecDepth 16384
noncomputable section
namespace Cert.KernelIdeal.ValueKernel
open Cert.KernelIdeal.Gen Cert.KernelIdeal.Run
open Idealize.ShloMosaic Idealize.ShloMosaic.TcCoe Idealize.ShloMosaic.Tactic
open Idealize.SL.Sem
open Cert.TopK (order pick rowAt pick_rowAt)

variable (m : (ℓ : Loc nD τ sig) → Buf (Elt Ideal) ℓ) (c : Dev nD)

/-! ## The operands the host prepares -/

/-- The first call's image is the argument with its channels moved last. -/
theorem U1_v3 : (U1 m c main_v3 : Vec Ideal S4x56x56x384 .f32) = transpose S4x56x56x384 [0, 2, 3, 1] (m ((c : Thread nD τ).loc main_arg0)) transposes_S4x384x56x56_S4x56x56x384_0_2_3_1 := by
  simp only [U1, StableHlo.after_cons, StableHlo.after_nil, hostOps0]; rfl
/-- The first call's weights are the argument's, transposed. -/
theorem U1_v1 : (U1 m c main_v1 : Vec Ideal S384x1152 .f32)
    = transpose S384x1152 [1, 0] (shapeCast S1152x384 (m ((c : Thread nD τ).loc main_arg1) : Vec Ideal S1152x384x1x1 .f32) shapeCasts_S1152x384x1x1_S1152x384) transposes_S1152x384_S384x1152_1_0 := by
  simp only [U1, StableHlo.after_cons, StableHlo.after_nil, hostOps0]; rfl
/-- The first call's bias is the argument's, as a row. -/
theorem U1_v2 : (U1 m c main_v2 : Vec Ideal S1x1152 .f32) = shapeCast S1x1152 (m ((c : Thread nD τ).loc main_arg2) : Vec Ideal S1152 .f32) shapeCasts_S1152_S1x1152 := by
  simp only [U1, StableHlo.after_cons, StableHlo.after_nil, hostOps0]; rfl

/-- The image with its channels last, at an index. -/
theorem v3_read (x : Vec Ideal S4x384x56x56 .f32) (b : Fin 4) (h w : Fin 56) (k : Fin 384) :
    transpose S4x56x56x384 [0, 2, 3, 1] x transposes_S4x384x56x56_S4x56x56x384_0_2_3_1 (ix4 b h w k) = x (ix4 b k h w) := by pointwise []
/-- The transposed weights, at an index. -/
theorem v1_read (x : Vec Ideal S1152x384x1x1 .f32) (k : Fin 384) (o : Fin 1152) :
    transpose S384x1152 [1, 0] (shapeCast S1152x384 x shapeCasts_S1152x384x1x1_S1152x384) transposes_S1152x384_S384x1152_1_0 (Idealize.ShloMosaic.ix2 k o) = x (ix4 o k 0 0) := by
  pointwise []
/-- The bias row, at an index. -/
theorem v2_read (x : Vec Ideal S1152 .f32) (o : Fin 1152) : shapeCast S1x1152 x shapeCasts_S1152_S1x1152 (Idealize.ShloMosaic.ix2 0 o) = x (ix1 o) := by
  pointwise []

/-- One image's projections, off the arguments. -/
def P (b : Fin 4) : Fin 1152 → Fin 56 → Fin 56 → EReal := Spec.projA (m ((c : Thread nD τ).loc main_arg0)) (m ((c : Thread nD τ).loc main_arg1)) (m ((c : Thread nD τ).loc main_arg2)) b

/-- A projection off the call's operands is the one off the arguments. -/
theorem proj_eq (b : Fin 4) (o : Fin 1152) (h w : Fin 56) : Value1.proj (U1 m c main_v3) (U1 m c main_v1) (U1 m c main_v2) b o h w = P m c b o h w := by
  unfold Value1.proj P Spec.projA
  refine congrArg₂ (· + ·) (Finset.sum_congr rfl fun k _ => congrArg₂ (· * ·) ?_ ?_) ?_
  · rw [U1_v3]; exact v3_read _ b h w k
  · rw [U1_v1]; exact v1_read _ k o
  · rw [U1_v2]; exact v2_read _ o

/-- So is a window's mean. -/
theorem pmean_eq (b : Fin 4) (o : Fin 1152) (i j : Fin 7) : Value1.pmean (U1 m c main_v3) (U1 m c main_v1) (U1 m c main_v2) b o i j = Spec.mean (P m c b) o i j := by
  exact congrArg (fun s => Ideal.div s (Ideal.ofBits .f32 0x42800000#32)) (Finset.sum_congr rfl fun a _ => Finset.sum_congr rfl fun e _ => proj_eq m c b o _ _)

/-! ## After the first call -/

/-- After the first call the channel-first array holds the projections, window by window. -/
theorem U2_v40 (b : Fin 4) (r : Fin 49) (o : Fin 1152) (p : Fin 64) : (U2 m c main_v4_0 : Vec Ideal S4x49x1152x64 .bf16) (ix4 b r o p) = Spec.pix (P m c b) o r p := by
  have h : U2 m c main_v4_0 = _ := (Pipeline.afterRegion_arr (Stage1.dat (U1 m) c) (U1 m c) winFacts0.arr_inj 3).trans (Value1.arr3 (U1 m) c)
  refine (congrFun h (ix4 b r o p)).trans ?_
  exact proj_eq m c b o _ _
/-- After the first call the image-shaped array holds the values. -/
theorem U2_v41 (b : Fin 4) (h w : Fin 56) (k : Fin 384) : (U2 m c main_v4_1 : Vec Ideal S4x56x56x384 .bf16) (ix4 b h w k) = P m c b ⟨768 + k.val, by omega⟩ h w := by
  have e : U2 m c main_v4_1 = _ := (Pipeline.afterRegion_arr (Stage1.dat (U1 m) c) (U1 m c) winFacts0.arr_inj 4).trans (Value1.arr4 (U1 m) c)
  refine (congrFun e (ix4 b h w k)).trans ?_
  exact proj_eq m c b _ _ _
/-- After the first call the third array holds the queries' window means. -/
theorem U2_v42 (b : Fin 4) (i j : Fin 7) (k : Fin 384) : (U2 m c main_v4_2 : Vec Ideal S4x7x7x384 .f32) (ix4 b i j k) = Spec.mean (P m c b) ⟨k.val, by omega⟩ i j := by
  have e : U2 m c main_v4_2 = _ := (Pipeline.afterRegion_arr (Stage1.dat (U1 m) c) (U1 m c) winFacts0.arr_inj 5).trans (Value1.arr5 (U1 m) c)
  refine (congrFun e (ix4 b i j k)).trans ?_
  exact pmean_eq m c b _ _ _
/-- After the first call the fourth array holds the keys' window means. -/
theorem U2_v43 (b : Fin 4) (i j : Fin 7) (k : Fin 384) : (U2 m c main_v4_3 : Vec Ideal S4x7x7x384 .f32) (ix4 b i j k) = Spec.mean (P m c b) ⟨384 + k.val, by omega⟩ i j := by
  have e : U2 m c main_v4_3 = _ := (Pipeline.afterRegion_arr (Stage1.dat (U1 m) c) (U1 m c) winFacts0.arr_inj 6).trans (Value1.arr6 (U1 m) c)
  refine (congrFun e (ix4 b i j k)).trans ?_
  exact pmean_eq m c b _ _ _

/-- The routing call's similarities are those of the means. -/
theorem sim_eq (b : Fin 4) : ValueRoute.sim (U2 m c main_v4_2) (U2 m c main_v4_3) b = Spec.simi (P m c b) := by
  funext r s
  unfold ValueRoute.sim Spec.simi
  exact Finset.sum_congr rfl fun k _ => congrArg₂ (· * ·) (U2_v42 m c b _ _ k) (U2_v43 m c b _ _ k)

/-! ## The table -/

/-- A window's number, clipped between 0 and 48, is itself. -/
theorem clip_id (w : Fin 49) : (IntOp.minsi 48#32 (IntOp.maxsi 0#32 (BitVec.ofNat 32 w.val))).toNat = w.val := by
  revert w; decide

/-- The clip of the table, at an index. -/
theorem clip_read (x : Vec Ideal S4x49x128 .i32) (j : S4x49x128.Idx) :
    minsi (broadcastInDim S4x49x128 ![] bcast_S_S4x49x128 (constantI S_ 32 48#32)) (maxsi (broadcastInDim S4x49x128 ![] bcast_S_S4x49x128 (constantI S_ 32 0#32)) x) j
      = IntOp.minsi 48#32 (IntOp.maxsi 0#32 (x j)) := rfl

/-- The routing call's table, read at a choice. -/
theorem U3_v5 (hs : ∀ b r s, ⊥ < Spec.simi (P m c b) r s) (b : Fin 4) (r : Fin 49) (n : Fin 4) :
    (U3 m c main_v5 : Vec Ideal S4x49x128 .i32) (ix3 b r ⟨n.val, by omega⟩) = BitVec.ofNat 32 (Spec.region (P m c b) r n).val := by
  have e : U3 m c main_v5 = _ := (Pipeline.afterRegion_arr (Route.dat (U2 m) c) (U2 m c) winFacts1.arr_inj 2).trans (ValueRoute.arr2 (U2 m) c)
  refine (congrFun e (ix3 b r ⟨n.val, Nat.lt_trans n.isLt (by decide)⟩)).trans ?_
  clear e
  refine (if_pos (show n.val < 4 from n.isLt)).trans ?_
  exact (congrArg (fun a : Fin 49 → Fin 49 → EReal => pick (rowAt (a r) n.val)) (sim_eq m c b)).trans (pick_rowAt (Spec.simi (P m c b) r) (hs b r) n.val (Nat.lt_trans n.isLt (by decide)))

/-- The table the attention call is handed. -/
theorem word_v6 (b : Fin 4) (r : Fin 49) (n : Fin 128) :
    ValueAttn.word (adm m 2) b r n = IntOp.minsi 48#32 (IntOp.maxsi 0#32 ((U3 m c main_v5 : Vec Ideal S4x49x128 .i32) (ix3 b r n))) := by
  have h : (U5 m c main_v6 : Vec Ideal S4x49x128 .i32) (ix3 b r n) = _ := congrFun (U5_v6 m c) (ix3 b r n)
  refine Eq.trans ?_ (h.trans (clip_read _ _))
  unfold ValueAttn.word
  exact congrFun (tab_eq m c 0) (ix3 b r n)

/-- A table row names the four most similar windows. -/
theorem word_eq (hs : ∀ b r s, ⊥ < Spec.simi (P m c b) r s) (b : Fin 4) (r : Fin 49) (n : Fin 4) :
    (ValueAttn.word (adm m 2) b r ⟨n.val, by omega⟩).toNat = (Spec.region (P m c b) r n).val := by
  have h := word_v6 m c b r ⟨n.val, by omega⟩
  have h2 := U3_v5 m c hs b r n
  rw [h2] at h
  rw [h]
  exact clip_id _

/-! ## After the attention call -/

/-- Channel `d` of an attended pixel. -/
def att (b : Fin 4) (r : Fin 49) (d : Fin 384) (p : Fin 64) : EReal :=
  ValueAttn.attend (Spec.qs (P m c b) r) (Spec.ks (P m c b) r) (Spec.vs (P m c b) r) d p

/-- The attention call finds the projections as the first call left them. -/
theorem U5_v40 (b : Fin 4) (r : Fin 49) (o : Fin 1152) (p : Fin 64) : (U5 m c main_v4_0 : Vec Ideal S4x49x1152x64 .bf16) (ix4 b r o p) = Spec.pix (P m c b) o r p := by
  have h : U5 m c main_v4_0 = U2 m c main_v4_0 := (U5_of m c main_v4_0 (by decide)).trans (U3_of m c main_v4_0 (by decide))
  exact (congrFun h (ix4 b r o p)).trans (U2_v40 m c b r o p)

/-- After the attention call its array holds the attended pixels. -/
theorem U6_v7 (hs : ∀ b r s, ⊥ < Spec.simi (P m c b) r s) (b : Fin 4) (r : Fin 49) (d : Fin 384) (p : Fin 64) :
    (U6 m c main_v7 : Vec Ideal S4x49x384x64 .bf16) (ix4 b r d p) = att m c b r d p := by
  have h0 : U6 m c main_v7 = attnOut m c := by unfold U6; exact Function.update_self ..
  have h1 : attnOut m c = _ := ValueAttn.arr9 (U5 m) (adm m 2) c (fun b r n => Spec.region (P m c b) r n) (word_eq m c hs)
  refine (congrFun (h0.trans h1) (ix4 b r d p)).trans ?_
  refine (ValueAttn.out_ix4 _ _ b r d p).trans ?_
  have hq : ValueAttn.colq (U5 m c main_v4_0) b r = Spec.qs (P m c b) r := funext fun d => funext fun p => U5_v40 m c b r _ p
  have hk : ValueAttn.colk (U5 m c main_v4_0) b (Spec.region (P m c b) r) = Spec.ks (P m c b) r := funext fun d => funext fun p => U5_v40 m c b _ _ _
  have hv : ValueAttn.colv (U5 m c main_v4_0) b (Spec.region (P m c b) r) = Spec.vs (P m c b) r := funext fun d => funext fun p => U5_v40 m c b _ _ _
  unfold att
  rw [← hq, ← hk, ← hv]

/-! ## The last call's operands -/

/-- The last call's values are the image-shaped array, padded by two. -/
theorem U8_v8 : (U8 m c main_v8 : Vec Ideal S4x60x60x384 .bf16)
    = pad S4x60x60x384 ![0, 2, 2, 0] ![0, 2, 2, 0] ![0, 0, 0, 0] (U6 m c main_v4_1 : Vec Ideal S4x56x56x384 .bf16) (sitofp (F := Ideal) .bf16 (constantI S_ 32 0#32)) pads_S4x56x56x384_S4x60x60x384_000_220_220_000 h_S_ := by
  simp only [U8, U7, StableHlo.after_cons, StableHlo.after_nil, hostOps3_1, hostOps3]; rfl

/-- A padded array, at an index. -/
theorem pad_read (x : Vec Ideal S4x56x56x384 .bf16) (b : Fin 4) (h w : Fin 60) (k : Fin 384) :
    pad S4x60x60x384 ![0, 2, 2, 0] ![0, 2, 2, 0] ![0, 0, 0, 0] x (sitofp (F := Ideal) .bf16 (constantI S_ 32 0#32)) pads_S4x56x56x384_S4x60x60x384_000_220_220_000 h_S_ (ix4 b h w k)
      = if hh : 2 ≤ h.val ∧ h.val < 58 ∧ 2 ≤ w.val ∧ w.val < 58 then x (ix4 b ⟨h.val - 2, by omega⟩ ⟨w.val - 2, by omega⟩ k) else 0 := by
  pointwise []
  refine dite_congr (propext (by omega)) (fun _ => rfl) fun _ => ?_
  show (((0#32).toInt : ℝ) : EReal) = 0
  simp

/-- The last call's filter is the argument's, transposed. -/
theorem U9_v10 : (U9 m c main_v10 : Vec Ideal S1x25x384 .f32)
    = transpose S1x25x384 [0, 2, 1] (shapeCast S1x384x25 (m ((c : Thread nD τ).loc main_arg3) : Vec Ideal S384x1x5x5 .f32) shapeCasts_S384x1x5x5_S1x384x25) transposes_S1x384x25_S1x25x384_0_2_1 := by
  have h : U8 m c main_arg3 = m ((c : Thread nD τ).loc main_arg3) := by
    refine Eq.trans ?_ (U9_arg m c main_arg3 (by decide))
    exact (StableHlo.after_of_writes_sub hostOps3_2 _ hostOps3_2_writes (by decide)).symm
  simp only [U9, StableHlo.after_cons, StableHlo.after_nil, hostOps3_2]
  exact congrArg (fun z => transpose S1x25x384 [0, 2, 1] (shapeCast S1x384x25 z shapeCasts_S384x1x5x5_S1x384x25) transposes_S1x384x25_S1x25x384_0_2_1) h
/-- The last call's weights are the argument's, transposed. -/
theorem U9_v12 : (U9 m c main_v12 : Vec Ideal S384x384 .f32)
    = transpose S384x384 [1, 0] (shapeCast S384x384 (m ((c : Thread nD τ).loc main_arg5) : Vec Ideal S384x384x1x1 .f32) shapeCasts_S384x384x1x1_S384x384) transposes_S384x384_S384x384_1_0 := by
  have h : U8 m c main_arg5 = m ((c : Thread nD τ).loc main_arg5) := by
    refine Eq.trans ?_ (U9_arg m c main_arg5 (by decide))
    exact (StableHlo.after_of_writes_sub hostOps3_2 _ hostOps3_2_writes (by decide)).symm
  simp only [U9, StableHlo.after_cons, StableHlo.after_nil, hostOps3_2]
  exact congrArg (fun z => transpose S384x384 [1, 0] (shapeCast S384x384 z shapeCasts_S384x384x1x1_S384x384) transposes_S384x384_S384x384_1_0) h
/-- The last call's bias is the argument's, as a row. -/
theorem U9_v13 : (U9 m c main_v13 : Vec Ideal S1x384 .f32) = shapeCast S1x384 (m ((c : Thread nD τ).loc main_arg6) : Vec Ideal S384 .f32) shapeCasts_S384_S1x384 := by
  have h : U8 m c main_arg6 = m ((c : Thread nD τ).loc main_arg6) := by
    refine Eq.trans ?_ (U9_arg m c main_arg6 (by decide))
    exact (StableHlo.after_of_writes_sub hostOps3_2 _ hostOps3_2_writes (by decide)).symm
  simp only [U9, StableHlo.after_cons, StableHlo.after_nil, hostOps3_2]
  exact congrArg (fun z => shapeCast S1x384 z shapeCasts_S384_S1x384) h

/-- The transposed filter, at an index. -/
theorem v10_read (x : Vec Ideal S384x1x5x5 .f32) (t : Fin 25) (k : Fin 384) :
    transpose S1x25x384 [0, 2, 1] (shapeCast S1x384x25 x shapeCasts_S384x1x5x5_S1x384x25) transposes_S1x384x25_S1x25x384_0_2_1 (ix3 0 t k) = Spec.wts x k t := by
  unfold Spec.wts
  pointwise []
/-- The output weights, transposed, at an index. -/
theorem v12_read (x : Vec Ideal S384x384x1x1 .f32) (k o : Fin 384) :
    transpose S384x384 [1, 0] (shapeCast S384x384 x shapeCasts_S384x384x1x1_S384x384) transposes_S384x384_S384x384_1_0 (Idealize.ShloMosaic.ix2 k o) = x (ix4 o k 0 0) := by
  pointwise []
/-- The output bias row, at an index. -/
theorem v13_read (x : Vec Ideal S384 .f32) (o : Fin 384) : shapeCast S1x384 x shapeCasts_S384_S1x384 (Idealize.ShloMosaic.ix2 0 o) = x (ix1 o) := by
  pointwise []

/-! ## The result -/

/-- The last call finds the padded values. -/
theorem U9_v8 (b : Fin 4) (h w : Fin 60) (k : Fin 384) : (U9 m c main_v8 : Vec Ideal S4x60x60x384 .bf16) (ix4 b h w k) = Spec.vpad (P m c b) k h w := by
  have e : U9 m c main_v8 = U8 m c main_v8 := StableHlo.after_of_writes_sub hostOps3_2 _ hostOps3_2_writes (by decide)
  have e2 : U6 m c main_v4_1 = U2 m c main_v4_1 := (U6_of m c main_v4_1 (by decide)).trans ((U5_of m c main_v4_1 (by decide)).trans (U3_of m c main_v4_1 (by decide)))
  refine (congrFun (e.trans (U8_v8 m c)) (ix4 b h w k)).trans ((pad_read _ b h w k).trans ?_)
  unfold Spec.vpad
  refine dite_congr rfl (fun hh => ?_) fun _ => rfl
  exact (congrFun e2 _).trans (U2_v41 m c b _ _ k)

/-- The last call finds the attended pixels. -/
theorem U9_v7 (hs : ∀ b r s, ⊥ < Spec.simi (P m c b) r s) (b : Fin 4) (r : Fin 49) (d : Fin 384) (p : Fin 64) :
    (U9 m c main_v7 : Vec Ideal S4x49x384x64 .bf16) (ix4 b r d p) = att m c b r d p :=
  (congrFun (U9_of m c main_v7 (by decide)) (ix4 b r d p)).trans (U6_v7 m c hs b r d p)

/-- The result at an index. -/
theorem U11_v15 (hs : ∀ b r s, ⊥ < Spec.simi (P m c b) r s) (b : Fin 4) (o : Fin 384) (h w : Fin 56) :
    (U11 m c main_v15 : Vec Ideal S4x384x56x56 .f32) (ix4 b o h w)
      = Spec.result (P m c b) (att m c b) (Spec.wts (m ((c : Thread nD τ).loc main_arg3))) (m ((c : Thread nD τ).loc main_arg5)) (m ((c : Thread nD τ).loc main_arg6)) o h w := by
  have e : (U11 m c main_v15 : Vec Ideal S4x384x56x56 .f32) = transpose S4x384x56x56 [0, 3, 1, 2] (U10 m c main_v14 : Vec Ideal S4x56x56x384 .f32) transposes_S4x56x56x384_S4x384x56x56_0_3_1_2 := by
    simp only [U11, StableHlo.after_cons, StableHlo.after_nil, hostOps4]; rfl
  have t : ∀ x : Vec Ideal S4x56x56x384 .f32, transpose S4x384x56x56 [0, 3, 1, 2] x transposes_S4x56x56x384_S4x384x56x56_0_3_1_2 (ix4 b o h w) = x (ix4 b h w o) := fun x => by
    pointwise []
  have e2 : U10 m c main_v14 = _ := (Pipeline.afterRegion_arr (Stage4.dat (U9 m) c) (U9 m c) winFacts3.arr_inj 5).trans (ValueStage4.arr5 (U9 m) c)
  refine (congrFun e _).trans ((t _).trans ((congrFun e2 (ix4 b h w o)).trans ((ValueStage4.out_ix4 _ _ _ _ _ b h w o).trans ?_)))
  unfold Spec.result
  refine congrArg₂ (· + ·) (Finset.sum_congr rfl fun k _ => congrArg₂ (· * ·) ?_ ((congrFun (U9_v12 m c) _).trans (v12_read _ k o))) ((congrFun (U9_v13 m c) _).trans (v13_read _ o))
  unfold ValueStage4.full Spec.before
  refine congrArg₂ (· + ·) (U9_v7 m c hs b _ k _) (Finset.sum_congr rfl fun t _ => congrArg₂ (· * ·) ((congrFun (U9_v10 m c) _).trans (v10_read _ t k)) ?_)
  exact U9_v8 m c b _ _ k

end Cert.KernelIdeal.ValueKernel
-- ==== Proof.Ideal.Algebraic.lean ====
module

public import proofs.«01_k».proof.Proof.Ideal.Pre
public import proofs.«01_k».proof.Proof.Ideal.ValueRef
public import proofs.«01_k».proof.Proof.Ideal.ValueKernel
public import proofs.«01_k».proof.Proof.Gen.KernelIdeal
public import proofs.«01_k».proof.Proof.Gen.ReferenceIdeal

/-! The kernel's result and the reference's, equal index by index. -/

@[expose] public section
set_option maxRecDepth 16384
noncomputable section
namespace Cert.Algebraic
open Idealize.ShloMosaic Idealize.ShloMosaic.TcCoe Idealize.SL.Sem
open Cert.Softmax

/-! ## Constants -/

/-- The word of 64 reads as 64. -/
theorem bits64 : Ideal.ofBits .f32 0x42800000#32 = ((64 : ℝ) : EReal) := by
  simp [Ideal.ofBits, Ideal.ieee, -EReal.coe_mul]; norm_num
/-- The word of 384 reads as 384. -/
theorem bits384 : Ideal.ofBits .f32 0x43C00000#32 = ((384 : ℝ) : EReal) := by
  simp [Ideal.ofBits, Ideal.ieee, -EReal.coe_mul]; norm_num
/-- The reference's divisor is the root of 384. -/
theorem root384 : Ideal.sqrt (Ideal.ofBits .f32 0x43C00000#32) = ((Real.sqrt 384 : ℝ) : EReal) := by
  rw [bits384, Ideal.sqrt_coe, if_neg (by norm_num)]
/-- The root of 384 is not zero. -/
theorem root_ne : Real.sqrt 384 ≠ 0 := (Real.sqrt_pos.mpr (by norm_num)).ne'
/-- The kernel's named scale is one over the root of 384. -/
theorem scale_eq : Cert.KernelIdeal.ValueAttn.scale = (((Real.sqrt 384)⁻¹ : ℝ) : EReal) :=
  IdealRules.named_const.ideal_named_scalar _ _ _ _ rfl

/-! ## Real projections give real similarities, and one attention -/

section Proj
variable (P : Fin 1152 → Fin 56 → Fin 56 → EReal) (hP : ∀ o h v, IsReal (P o h v))
include hP

/-- The window means of real projections are real. -/
theorem mean_real (o : Fin 1152) (i j : Fin 7) : IsReal (Spec.mean P o i j) := by
  unfold Spec.mean
  rw [bits64]
  exact IsReal.div (IsReal.sum _ _ fun a => IsReal.sum _ _ fun e => hP _ _ _) (by norm_num)
/-- Similarities of real projections lie above minus infinity. -/
theorem simi_bot (r s : Fin 49) : ⊥ < Spec.simi P r s := by
  unfold Spec.simi
  exact (IsReal.sum _ _ fun k => (mean_real P hP _ _ _).mul (mean_real P hP _ _ _)).bot_lt
/-- A window's pixel is one of the projections, so it is real. -/
theorem pix_real (o : Fin 1152) (r : Fin 49) (p : Fin 64) : IsReal (Spec.pix P o r p) := hP _ _ _

end Proj

section Ref
variable (V0 : Valuation Cert.ReferenceIdeal.τ Cert.ReferenceIdeal.sig (Elt Ideal)) (b : Fin 4) (hP : ∀ o h v, IsReal (ReferenceIdeal.ValueRef.P V0 b o h v))
include hP
open Cert.ReferenceIdeal.ValueRef (L attR ch top)

/-- The reference's scores are real when the projections are. -/
theorem L_real (h : Fin 12) (r : Fin 49) (p : Fin 64) (j : Fin 256) : IsReal (L V0 b h r p j) := by
  unfold L
  rw [root384]
  exact IsReal.sum _ _ fun d => (IsReal.div (pix_real _ hP _ _ _) root_ne).mul (pix_real _ hP _ _ _)

/-- The reference's score is the kernel's. -/
theorem L_score (c : Fin 384) (r : Fin 49) (p : Fin 64) (j : Fin 256) :
    L V0 b ⟨c.val / 32, by omega⟩ r p j
      = KernelIdeal.ValueAttn.score (Spec.qs (ReferenceIdeal.ValueRef.P V0 b) r) (Spec.ks (ReferenceIdeal.ValueRef.P V0 b) r) c p j := by
  unfold L KernelIdeal.ValueAttn.score
  rw [root384, scale_eq]
  exact scaled _ _ _ root_ne (fun d => pix_real _ hP _ _ _) fun d => pix_real _ hP _ _ _

/-- The reference's attended pixel is the kernel's. -/
theorem attR_eq (r : Fin 49) (c : Fin 384) (p : Fin 64) :
    attR V0 b r c p = KernelIdeal.ValueAttn.attend (Spec.qs (ReferenceIdeal.ValueRef.P V0 b) r) (Spec.ks (ReferenceIdeal.ValueRef.P V0 b) r) (Spec.vs (ReferenceIdeal.ValueRef.P V0 b) r) c p := by
  have hs : ∀ j, L V0 b ⟨c.val / 32, by omega⟩ r p j
      = KernelIdeal.ValueAttn.score (Spec.qs (ReferenceIdeal.ValueRef.P V0 b) r) (Spec.ks (ReferenceIdeal.ValueRef.P V0 b) r) c p j := L_score V0 b hP c r p
  have hM : IsReal (top V0 b ⟨c.val / 32, by omega⟩ r p) := by
    unfold top
    exact isReal_max _ (L_real V0 b hP _ r p) _ Cert.TopK.ninf
  unfold attR KernelIdeal.ValueAttn.attend
  refine (softmax (L V0 b ⟨c.val / 32, by omega⟩ r p) (Spec.vs (ReferenceIdeal.ValueRef.P V0 b) r c) _ (L_real V0 b hP _ r p) (fun j => pix_real _ hP _ _ _) hM).trans ?_
  exact congrArg₂ Ideal.div (Finset.sum_congr rfl fun j _ => congrArg (fun y : EReal => _ * Ideal.exp y) (hs j)) (Finset.sum_congr rfl fun j _ => congrArg Ideal.exp (hs j))

end Ref

/-! ## The claim -/

/-- An index of the result, by its coordinates. -/
theorem idx4 (i : KernelIdeal.S4x384x56x56.Idx) : i = ix4 (i 0) (i 1) (i 2) (i 3) := by
  funext a
  match a with
  | ⟨0, _⟩ => rfl
  | ⟨1, _⟩ => rfl
  | ⟨2, _⟩ => rfl
  | ⟨3, _⟩ => rfl

/-- The input projection of real arguments is real. -/
theorem proj_real (x : Vec Ideal KernelIdeal.S4x384x56x56 .f32) (w : Vec Ideal KernelIdeal.S1152x384x1x1 .f32) (b0 : Vec Ideal KernelIdeal.S1152 .f32)
    (hx : ∀ i, IsReal (x i)) (hw : ∀ i, IsReal (w i)) (hb : ∀ i, IsReal (b0 i)) (b : Fin 4) (o : Fin 1152) (h v : Fin 56) : IsReal (Spec.projA x w b0 b o h v) := by
  unfold Spec.projA
  exact (IsReal.sum _ _ fun k => (hx _).mul (hw _)).add (hb _)

/-- From memories agreeing on arguments that the precondition holds of, the kernel and the reference both run and end with the same array. -/
theorem algebraic : Cert.algebraic_KernelIdeal_ReferenceIdeal_pre_drawn_inputs := by
  intro m g m' g' hpre hag
  refine ⟨fun c => KernelIdeal.Run.U11 m c KernelIdeal.main_v15, ?_, ?_⟩
  · exact (θ_run KernelIdeal.defs _ _).mono (fun _ h => h.1) (KernelIdeal.Run.run_result m g)
  · refine (θ_run ReferenceIdeal.defs _ _).mono (fun r h c => ⟨(h c).1.trans ?_, (h c).2⟩) (ReferenceIdeal.Value.run m' g')
    clear h
    obtain ⟨h0, h1, h2, h3, h4, h5, h6⟩ := hag c
    obtain ⟨r0, r1, r2, r4⟩ := PreRead.facts_of _ _ _ _ _ _ _ (hpre c)
    have hPm : ∀ b o h v, IsReal (KernelIdeal.ValueKernel.P m c b o h v) := fun b o h v => proj_real _ _ _ r0 r1 r2 b o h v
    have eP : ∀ b, ReferenceIdeal.ValueRef.P (StableHlo.launchContents m' c) b = KernelIdeal.ValueKernel.P m c b := fun b => by
      unfold ReferenceIdeal.ValueRef.P KernelIdeal.ValueKernel.P
      exact congrFun (congr (congr (congrArg Spec.projA h0) h1) h2) b
    have hPr : ∀ b o h v, IsReal (ReferenceIdeal.ValueRef.P (StableHlo.launchContents m' c) b o h v) := fun b o h v => by rw [eP]; exact hPm b o h v
    have hb : ∀ k, ReferenceIdeal.ValueRef.b4 (StableHlo.launchContents m' c) k = 0 := fun k => (congrFun h4 (ix1 k)).trans (r4 (ix1 k))
    have eA : ∀ b, ReferenceIdeal.ValueRef.attR (StableHlo.launchContents m' c) b = KernelIdeal.ValueKernel.att m c b := fun b => by
      funext r d p
      refine (attR_eq _ b (hPr b) r d p).trans ?_
      unfold KernelIdeal.ValueKernel.att
      rw [eP b]
    have e3 : Spec.wts (StableHlo.launchContents m' c (Proc.devRef .tc ReferenceIdeal.main_arg3)) = Spec.wts (m ((c.tc : Thread KernelIdeal.nD KernelIdeal.τ).loc KernelIdeal.main_arg3)) := congrArg Spec.wts h3
    funext i
    obtain ⟨b, o, y, x, rfl⟩ : ∃ (b : Fin 4) (o : Fin 384) (y x : Fin 56), i = ix4 b o y x := ⟨i 0, i 1, i 2, i 3, idx4 i⟩
    refine (ReferenceIdeal.ValueRef.result_at (StableHlo.launchContents m' c) b o y x hb).trans (Eq.trans ?_ (KernelIdeal.ValueKernel.U11_v15 m c (fun b r s => simi_bot _ (hPm b) r s) b o y x).symm)
    refine Eq.trans ?_ (congrFun (congrFun (congrFun (congr (congr (congr (congrArg (Spec.result (KernelIdeal.ValueKernel.P m c b)) (eA b)) e3) h5) h6) o) y) x)
    rw [eP b]

end Cert.Algebraic
-- ==== Proof.lean ====
/- The claims of `Defs.lean`, put together. -/
module

public import proofs.«01_k».proof.Proof.Gen.ReferenceIdeal.Run
public import proofs.«01_k».proof.Proof.Ideal.Frames
public import proofs.«01_k».proof.Proof.Word.Frames
public import proofs.«01_k».proof.Proof.Ideal.Algebraic
public import proofs.«01_k».proof.Proof.Gen.Pre_drawn_inputs
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel at the words of the machine, from any memory: it terminates, its arguments stay, every counter ends at zero. -/
theorem frame_p : Cert.quiescent_Kernel := fun m ρ _ =>
  (θ_run Cert.Kernel.defs _ _).mono (fun _ h => ⟨fun c => (h.1 c).2, h.2⟩) (Cert.Kernel.Run.run_result m ρ)

/-- The same at the ideal numbers. -/
theorem frame_pi : Cert.quiescent_KernelIdeal := fun m ρ _ =>
  (θ_run Cert.KernelIdeal.defs _ _).mono (fun _ h => ⟨fun c => (h.1 c).2, h.2⟩) (Cert.KernelIdeal.Run.run_result m ρ)

/-- The reference at the ideal numbers. -/
theorem frame_ri : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- The one named constant is the reciprocal root of 384, which the machine rounds to the word the kernel writes. -/
theorem preserves_scale : Cert.preserves_Kernel_KernelIdeal :=
  IdealRules.named_const.statement Cert.KernelIdeal.κ "scale" .f32 0x3D5105EC#32 (((Real.sqrt 384)⁻¹ : ℝ) : EReal) rfl

/-- The kernel's frame, from the memories the value claim is stated of. -/
theorem frame_pi_drawn : Cert.quiescent_KernelIdeal_pre_drawn_inputs := fun m ρ _ =>
  (θ_run Cert.KernelIdeal.defs _ _).mono (fun _ h => ⟨fun c => (h.1 c).2, h.2⟩) (Cert.KernelIdeal.Run.run_result m ρ)

/-- The reference's frame, from the memories the value claim is stated of. -/
theorem frame_ri_drawn : Cert.quiescent_ReferenceIdeal_pre_drawn_inputs := fun m ρ _ =>
  (θ_run Cert.ReferenceIdeal.defs _ _).mono (fun r h => ⟨fun c => (h c).2, sem_eq_zero_of_no_sems (by decide) r.2⟩) (Cert.ReferenceIdeal.Value.run m ρ)

/-- Every claim of the certificate. -/
theorem claim : Cert.Claim := ⟨Cert.Kernel.Gen.facts, Cert.KernelIdeal.Gen.facts, Cert.ReferenceIdeal.Gen.facts, Cert.Pre_drawn_inputs.Gen.facts,
  frame_p, frame_pi, frame_pi_drawn, frame_ri, frame_ri_drawn, preserves_scale, Cert.Algebraic.algebraic⟩

end Cert.Proof

end

end
